-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_x [hPre_finite_x : Cert.Pre_finite_x.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_x.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite_x.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_x [hPre_finite_x : Cert.Pre_finite_x.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_x.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite_x.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_x [hKernel3Ideal : Cert.Kernel3Ideal.Facts] [hPre_finite_x : Cert.Pre_finite_x.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_x m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_x [hReference3Ideal : Cert.Reference3Ideal.Facts] [hPre_finite_x : Cert.Pre_finite_x.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_x m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "alpha" .f32 0x3F9837F0#32 ((Real.sqrt (Real.sqrt 2) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal_pre_finite_x [hKernel3Ideal : Cert.Kernel3Ideal.Facts] [hReference3Ideal : Cert.Reference3Ideal.Facts] [hPre_finite_x : Cert.Pre_finite_x.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_x m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v32_0)) (v1 : (c : Dev Cert.Kernel3Ideal.nD) → Buf (Elt Ideal) ((c.tc : Thread Cert.Kernel3Ideal.nD Cert.Kernel3Ideal.τ).loc Cert.Kernel3Ideal.main_v32_1)) (v2 : (c : Dev Cert.Kernel3Ideal.nD) → Buf (Elt Ideal) ((c.tc : Thread Cert.Kernel3Ideal.nD Cert.Kernel3Ideal.τ).loc Cert.Kernel3Ideal.main_v32_2)) (v3 : (c : Dev Cert.Kernel3Ideal.nD) → Buf (Elt Ideal) ((c.tc : Thread Cert.Kernel3Ideal.nD Cert.Kernel3Ideal.τ).loc Cert.Kernel3Ideal.main_v32_3)) (v4 : (c : Dev Cert.Kernel3Ideal.nD) → Buf (Elt Ideal) ((c.tc : Thread Cert.Kernel3Ideal.nD Cert.Kernel3Ideal.τ).loc Cert.Kernel3Ideal.main_v32_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32_0) = v0 c
          ∧ r.2.mem ((c.tc : Thread Cert.Kernel3Ideal.nD Cert.Kernel3Ideal.τ).loc Cert.Kernel3Ideal.main_v32_1) = v1 c
          ∧ r.2.mem ((c.tc : Thread Cert.Kernel3Ideal.nD Cert.Kernel3Ideal.τ).loc Cert.Kernel3Ideal.main_v32_2) = v2 c
          ∧ r.2.mem ((c.tc : Thread Cert.Kernel3Ideal.nD Cert.Kernel3Ideal.τ).loc Cert.Kernel3Ideal.main_v32_3) = v3 c
          ∧ r.2.mem ((c.tc : Thread Cert.Kernel3Ideal.nD Cert.Kernel3Ideal.τ).loc Cert.Kernel3Ideal.main_v32_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v87) = v0 c
          ∧ r.2.mem ((c.tc : Thread Cert.Reference3Ideal.nD Cert.Reference3Ideal.τ).loc Cert.Reference3Ideal.main_v89) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v93) = v3 c
          ∧ r.2.mem ((c.tc : Thread Cert.Reference3Ideal.nD Cert.Reference3Ideal.τ).loc Cert.Reference3Ideal.main_v94) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts) (hPre_finite_x : Cert.Pre_finite_x.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_x (hKernel3Ideal := hKernel3Ideal) (hPre_finite_x := hPre_finite_x)
    ∧ quiescent_Reference3Ideal (hReference3Ideal := hReference3Ideal)
    ∧ quiescent_Reference3Ideal_pre_finite_x (hReference3Ideal := hReference3Ideal) (hPre_finite_x := hPre_finite_x)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_x (hKernel3Ideal := hKernel3Ideal) (hReference3Ideal := hReference3Ideal) (hPre_finite_x := hPre_finite_x)
-- ==== Pre_finite_qk.lean ====
abbrev S8x4096x8x96 : Shape := ⟨4, ![8, 4096, 8, 96]⟩
abbrev S8x4096x8x64 : Shape := ⟨4, ![8, 4096, 8, 64]⟩
abbrev S_ : Shape := ⟨0, ![]⟩

class Facts : Prop where
  bcast_S_S8x4096x8x96 : S_.BroadcastsInDim S8x4096x8x96 (![] : Fin 0 → Fin S8x4096x8x96.rank)

variable [Facts]

def fn {F : FTy → Type} [FloatOps F] (main_arg0 : FVec F S8x4096x8x96 .f32) (main_arg1 : FVec F S8x4096x8x96 .f32) (main_arg2 : FVec F S8x4096x8x64 .f32) : IVec S8x4096x8x96 1 × IVec S8x4096x8x96 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_v3 : FVec F S8x4096x8x96 .f32 := Host.absf main_arg1
  let main_cst_0 : FVec F S_ .f32 := constant S_ .f32 0x7F800000#32
  let main_v4 : FVec F S8x4096x8x96 .f32 := broadcastInDim S8x4096x8x96 ![] bcast_S_S8x4096x8x96 main_cst_0
  let main_v5 : IVec S8x4096x8x96 1 := cmpf .olt main_v3 main_v4
  (main_v2, main_v5)
-- ==== Pre_finite_x.lean ====
abbrev S8x4096x1024 : Shape := ⟨3, ![8, 4096, 1024]⟩
abbrev S1024x3232 : Shape := ⟨2, ![1024, 3232]⟩
abbrev S1024x1024 : Shape := ⟨2, ![1024, 1024]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4096x16 : Shape := ⟨2, ![4096, 16]⟩
abbrev S_ : Shape := ⟨0, ![]⟩

class Facts : Prop where
  bcast_S_S8x4096x1024 : S_.BroadcastsInDim S8x4096x1024 (![] : Fin 0 → Fin S8x4096x1024.rank)
  bcast_S_S1024x3232 : S_.BroadcastsInDim S1024x3232 (![] : Fin 0 → Fin S1024x3232.rank)

variable [Facts]

def fn {F : FTy → Type} [FloatOps F] (main_arg0 : FVec F S8x4096x1024 .f32) (main_arg1 : FVec F S1024x3232 .f32) (main_arg2 : FVec F S1024x1024 .f32) (main_arg3 : FVec F S384 .f32) (main_arg4 : FVec F S384x768 .f32) (main_arg5 : FVec F S256 .f32) (main_arg6 : FVec F S256x1024 .f32) (main_arg7 : FVec F S4096x16 .f32) (main_arg8 : FVec F S4096x16 .f32) : IVec S8x4096x1024 1 × IVec S1024x3232 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S1024x3232 .f32 := Host.absf main_arg1
  let main_cst_0 : FVec F S_ .f32 := constant S_ .f32 0x7F800000#32
  let main_v4 : FVec F S1024x3232 .f32 := broadcastInDim S1024x3232 ![] bcast_S_S1024x3232 main_cst_0
  let main_v5 : IVec S1024x3232 1 := cmpf .olt main_v3 main_v4
  (main_v2, main_v5)
-- ==== Kernel.lean ====
abbrev S8x4096x8x96 : Shape := ⟨4, ![8, 4096, 8, 96]⟩
abbrev S8x4096x8x64 : Shape := ⟨4, ![8, 4096, 8, 64]⟩
abbrev S_ : Shape := ⟨0, ![]⟩
abbrev S8x8x96x4096 : Shape := ⟨4, ![8, 8, 96, 4096]⟩
abbrev S8x8x32x4096 : Shape := ⟨4, ![8, 8, 32, 4096]⟩
abbrev S8x8x128x4096 : Shape := ⟨4, ![8, 8, 128, 4096]⟩
abbrev S8x8x4096x96 : Shape := ⟨4, ![8, 8, 4096, 96]⟩
abbrev S8x8x4096x1 : Shape := ⟨4, ![8, 8, 4096, 1]⟩
abbrev S8x8x4096x31 : Shape := ⟨4, ![8, 8, 4096, 31]⟩
abbrev S8x8x4096x128 : Shape := ⟨4, ![8, 8, 4096, 128]⟩
abbrev S8x8x64x4096 : Shape := ⟨4, ![8, 8, 64, 4096]⟩
abbrev S8x8x16x4096 : Shape := ⟨4, ![8, 8, 16, 4096]⟩
abbrev S8x8x80x4096 : Shape := ⟨4, ![8, 8, 80, 4096]⟩
abbrev S8x512x4096 : Shape := ⟨3, ![8, 512, 4096]⟩
abbrev S1x1x128x4096 : Shape := ⟨4, ![1, 1, 128, 4096]⟩
abbrev S1x1x4096x128 : Shape := ⟨4, ![1, 1, 4096, 128]⟩
abbrev S1x1x80x4096 : Shape := ⟨4, ![1, 1, 80, 4096]⟩
abbrev S1x64x4096 : Shape := ⟨3, ![1, 64, 4096]⟩
abbrev S128x1024 : Shape := ⟨2, ![128, 1024]⟩
abbrev S1x1024 : Shape := ⟨2, ![1, 1024]⟩
abbrev S80x1024 : Shape := ⟨2, ![80, 1024]⟩
abbrev S16x128 : Shape := ⟨2, ![16, 128]⟩
abbrev S16x512 : Shape := ⟨2, ![16, 512]⟩
abbrev S1x1x512x128 : Shape := ⟨4, ![1, 1, 512, 128]⟩
abbrev S512x128 : Shape := ⟨2, ![512, 128]⟩
abbrev S1x16x512 : Shape := ⟨3, ![1, 16, 512]⟩
abbrev S1 : Shape := ⟨1, ![1]⟩
abbrev S1x1x1 : Shape := ⟨3, ![1, 1, 1]⟩
abbrev S1x1x128x1024 : Shape := ⟨4, ![1, 1, 128, 1024]⟩
abbrev S1024 : Shape := ⟨1, ![1024]⟩
abbrev S512x1024 : Shape := ⟨2, ![512, 1024]⟩
abbrev S1x1x80x512 : Shape := ⟨4, ![1, 1, 80, 512]⟩
abbrev S80x512 : Shape := ⟨2, ![80, 512]⟩
abbrev S64x1024 : Shape := ⟨2, ![64, 1024]⟩
abbrev S1x64x1024 : Shape := ⟨3, ![1, 64, 1024]⟩
abbrev S1x1x1024 : Shape := ⟨3, ![1, 1, 1024]⟩

abbrev nBuf : Space → Nat
  | .hbm => 30
  | .vmem => 11
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x8x96, .f32⟩
  | .hbm, ⟨11, _⟩ => ⟨S8x4096x8x96, .f32⟩
  | .hbm, ⟨12, _⟩ => ⟨S8x8x96x4096, .f32⟩
  | .hbm, ⟨13, _⟩ => ⟨S_, .f32⟩
  | .hbm, ⟨14, _⟩ => ⟨S8x8x32x4096, .f32⟩
  | .hbm, ⟨15, _⟩ => ⟨S8x8x128x4096, .f32⟩
  | .hbm, ⟨16, _⟩ => ⟨S8x8x128x4096, .bf16⟩
  | .hbm, ⟨17, _⟩ => ⟨S8x8x4096x96, .f32⟩
  | .hbm, ⟨18, _⟩ => ⟨S_, .f32⟩
  | .hbm, ⟨19, _⟩ => ⟨S8x8x4096x1, .f32⟩
  | .hbm, ⟨20, _⟩ => ⟨S_, .f32⟩
  | .hbm, ⟨21, _⟩ => ⟨S8x8x4096x31, .f32⟩
  | .hbm, ⟨22, _⟩ => ⟨S8x8x4096x128, .f32⟩
  | .hbm, ⟨23, _⟩ => ⟨S8x8x64x4096, .f32⟩
  | .hbm, ⟨24, _⟩ => ⟨S_, .f32⟩
  | .hbm, ⟨25, _⟩ => ⟨S8x8x16x4096, .f32⟩
  | .hbm, ⟨26, _⟩ => ⟨S8x8x80x4096, .f32⟩
  | .hbm, ⟨27, _⟩ => ⟨S8x8x4096x128, .bf16⟩
  | .hbm, ⟨28, _⟩ => ⟨S8x8x80x4096, .bf16⟩
  | .hbm, ⟨29, _⟩ => ⟨S8x512x4096, .bf16⟩
  | .local _ .vmem, ⟨0, _⟩ => ⟨S1x1x128x4096, .bf16⟩
  | .local _ .vmem, ⟨1, _⟩ => ⟨S1x1x128x4096, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x80x4096, .bf16⟩
  | .local _ .vmem, ⟨5, _⟩ => ⟨S1x1x80x4096, .bf16⟩
  | .local _ .vmem, ⟨6, _⟩ => ⟨S1x64x4096, .bf16⟩
  | .local _ .vmem, ⟨7, _⟩ => ⟨S1x64x4096, .bf16⟩
  | .local _ .vmem, ⟨8, _⟩ => ⟨S128x1024, .bf16⟩
  | .local _ .vmem, ⟨9, _⟩ => ⟨S1x1024, .f32⟩
  | .local _ .vmem, ⟨10, _⟩ => ⟨S80x1024, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  let c8_i32 : BitVec 32 := 8#32
  let v2 : BitVec 32 := Scalar.muli c0_i32 c8_i32
  let c0_i32_1 : BitVec 32 := 0#32
  let v3 : BitVec 32 := Scalar.addi v2 c0_i32_1
  let c512_i32 : BitVec 32 := 512#32
  let v4 : BitVec 32 := Scalar.muli v3 c512_i32
  v4
def k0_off1 (c0_i32_1 : BitVec 32) : Fin 4 → Nat :=
  let c0 : Index := 0#32
  let c0_2 : Index := 0#32
  let c0_i32 : BitVec 32 := 0#32
  let c8_i32 : BitVec 32 := 8#32
  let v2 : BitVec 32 := Scalar.muli c0_i32 c8_i32
  let v3 : BitVec 32 := Scalar.addi v2 c0_i32_1
  let c512_i32 : BitVec 32 := 512#32
  let v4 : BitVec 32 := Scalar.muli v3 c512_i32
  let v5 : BitVec 32 := v4
  let v6 : Index := Scalar.indexCast v5
  let c0_3 : Index := 0#32
  ![0, 0, v6.toNat, 0]
def k0_mult2 : BitVec 32 :=
  let c0_i32 : BitVec 32 := 0#32
  let c8_i32_5 : BitVec 32 := 8#32
  let v12 : BitVec 32 := Scalar.muli c0_i32 c8_i32_5
  let c1_i32 : BitVec 32 := 1#32
  let v13 : BitVec 32 := Scalar.addi v12 c1_i32
  let c512_i32_6 : BitVec 32 := 512#32
  let v14 : BitVec 32 := Scalar.muli v13 c512_i32_6
  v14
def k0_mult3 : BitVec 32 :=
  let c0_i32 : BitVec 32 := 0#32
  let c8_i32_11 : BitVec 32 := 8#32
  let v22 : BitVec 32 := Scalar.muli c0_i32 c8_i32_11
  let c2_i32 : BitVec 32 := 2#32
  let v23 : BitVec 32 := Scalar.addi v22 c2_i32
  let c512_i32_12 : BitVec 32 := 512#32
  let v24 : BitVec 32 := Scalar.muli v23 c512_i32_12
  v24
def k0_mult4 : BitVec 32 :=
  let c0_i32 : BitVec 32 := 0#32
  let c8_i32_17 : BitVec 32 := 8#32
  let v32 : BitVec 32 := Scalar.muli c0_i32 c8_i32_17
  let c3_i32 : BitVec 32 := 3#32
  let v33 : BitVec 32 := Scalar.addi v32 c3_i32
  let c512_i32_18 : BitVec 32 := 512#32
  let v34 : BitVec 32 := Scalar.muli v33 c512_i32_18
  v34
def k0_mult5 : BitVec 32 :=
  let c0_i32 : BitVec 32 := 0#32
  let c8_i32_23 : BitVec 32 := 8#32
  let v42 : BitVec 32 := Scalar.muli c0_i32 c8_i32_23
  let c4_i32 : BitVec 32 := 4#32
  let v43 : BitVec 32 := Scalar.addi v42 c4_i32
  let c512_i32_24 : BitVec 32 := 512#32
  let v44 : BitVec 32 := Scalar.muli v43 c512_i32_24
  v44
def k0_mult6 : BitVec 32 :=
  let c0_i32 : BitVec 32 := 0#32
  let c8_i32_29 : BitVec 32 := 8#32
  let v52 : BitVec 32 := Scalar.muli c0_i32 c8_i32_29
  let c5_i32 : BitVec 32 := 5#32
  let v53 : BitVec 32 := Scalar.addi v52 c5_i32
  let c512_i32_30 : BitVec 32 := 512#32
  let v54 : BitVec 32 := Scalar.muli v53 c512_i32_30
  v54
def k0_mult7 : BitVec 32 :=
  let c0_i32 : BitVec 32 := 0#32
  let c8_i32_35 : BitVec 32 := 8#32
  let v62 : BitVec 32 := Scalar.muli c0_i32 c8_i32_35
  let c6_i32 : BitVec 32 := 6#32
  let v63 : BitVec 32 := Scalar.addi v62 c6_i32
  let c512_i32_36 : BitVec 32 := 512#32
  let v64 : BitVec 32 := Scalar.muli v63 c512_i32_36
  v64
def k0_mult8 : BitVec 32 :=
  let c0_i32 : BitVec 32 := 0#32
  let c8_i32_41 : BitVec 32 := 8#32
  let v72 : BitVec 32 := Scalar.muli c0_i32 c8_i32_41
  let c7_i32 : BitVec 32 := 7#32
  let v73 : BitVec 32 := Scalar.addi v72 c7_i32
  let c512_i32_42 : BitVec 32 := 512#32
  let v74 : BitVec 32 := Scalar.muli v73 c512_i32_42
  v74
@[reducible] def k0_t1_loop : Scf.Loop 32 :=
  let c0_i32_49 : BitVec 32 := 0#32
  let c4_i32_50 : BitVec 32 := 4#32
  let v87 : BitVec 32 := Scalar.addi c0_i32_49 c4_i32_50
  let c1_i32_51 : BitVec 32 := 1#32
  ⟨c0_i32_49, v87, c1_i32_51⟩
def k0_mult9 (k0_t1 : Fin k0_t1_loop.trips) : BitVec 32 :=
  let c0_i32_49 : BitVec 32 := 0#32
  let c1_i32_51 : BitVec 32 := 1#32
  let arg9 : BitVec 32 := Scf.iv c0_i32_49 c1_i32_51 k0_t1
  let c1024_i32 : BitVec 32 := 1024#32
  let v88 : BitVec 32 := Scalar.muli arg9 c1024_i32
  v88
def k0_off2 (k0_t1 : Fin k0_t1_loop.trips) : Fin 4 → Nat :=
  let c0_53 : Index := 0#32
  let c0_54 : Index := 0#32
  let c0_55 : Index := 0#32
  let c0_i32_49 : BitVec 32 := 0#32
  let c1_i32_51 : BitVec 32 := 1#32
  let arg9 : BitVec 32 := Scf.iv c0_i32_49 c1_i32_51 k0_t1
  let c1024_i32 : BitVec 32 := 1024#32
  let v88 : BitVec 32 := Scalar.muli arg9 c1024_i32
  let v89 : BitVec 32 := v88
  let v90 : Index := Scalar.indexCast v89
  ![0, 0, 0, v90.toNat]
def k0_mult10 (k0_t1 : Fin k0_t1_loop.trips) : BitVec 32 :=
  let c0_i32_49 : BitVec 32 := 0#32
  let c1_i32_51 : BitVec 32 := 1#32
  let arg9 : BitVec 32 := Scf.iv c0_i32_49 c1_i32_51 k0_t1
  let c1024_i32_150 : BitVec 32 := 1024#32
  let v197 : BitVec 32 := Scalar.muli arg9 c1024_i32_150
  v197
def k0_off3 (k0_t1 : Fin k0_t1_loop.trips) : Fin 3 → Nat :=
  let c0_151 : Index := 0#32
  let c0_152 : Index := 0#32
  let c0_i32_49 : BitVec 32 := 0#32
  let c1_i32_51 : BitVec 32 := 1#32
  let arg9 : BitVec 32 := Scf.iv c0_i32_49 c1_i32_51 k0_t1
  let c1024_i32_150 : BitVec 32 := 1024#32
  let v197 : BitVec 32 := Scalar.muli arg9 c1024_i32_150
  let v198 : BitVec 32 := v197
  let v199 : Index := Scalar.indexCast v198
  ![0, 0, v199.toNat]
def k0_mult11 (k0_t1 : Fin k0_t1_loop.trips) : BitVec 32 :=
  let c0_i32_49 : BitVec 32 := 0#32
  let c1_i32_51 : BitVec 32 := 1#32
  let arg9 : BitVec 32 := Scf.iv c0_i32_49 c1_i32_51 k0_t1
  let c1024_i32_156 : BitVec 32 := 1024#32
  let v212 : BitVec 32 := Scalar.muli arg9 c1024_i32_156
  v212
def k0_off4 (k0_t1 : Fin k0_t1_loop.trips) : Fin 4 → Nat :=
  let c0_157 : Index := 0#32
  let c0_158 : Index := 0#32
  let c0_159 : Index := 0#32
  let c0_i32_49 : BitVec 32 := 0#32
  let c1_i32_51 : BitVec 32 := 1#32
  let arg9 : BitVec 32 := Scf.iv c0_i32_49 c1_i32_51 k0_t1
  let c1024_i32_156 : BitVec 32 := 1024#32
  let v212 : BitVec 32 := Scalar.muli arg9 c1024_i32_156
  let v213 : BitVec 32 := v212
  let v214 : Index := Scalar.indexCast v213
  ![0, 0, 0, v214.toNat]
@[reducible] def k0_t2_loop : Scf.Loop 32 :=
  let c0_i32_166 : BitVec 32 := 0#32
  let c8_i32_167 : BitVec 32 := 8#32
  let v225 : BitVec 32 := Scalar.addi c0_i32_166 c8_i32_167
  let c1_i32_168 : BitVec 32 := 1#32
  ⟨c0_i32_166, v225, c1_i32_168⟩
def k0_mult12 (k0_t2 : Fin k0_t2_loop.trips) : BitVec 32 :=
  let c0_i32_166 : BitVec 32 := 0#32
  let c1_i32_168 : BitVec 32 := 1#32
  let arg10 : BitVec 32 := Scf.iv c0_i32_166 c1_i32_168 k0_t2
  let c512_i32_175 : BitVec 32 := 512#32
  let v238 : BitVec 32 := Scalar.muli arg10 c512_i32_175
  v238
def k0_off5 (k0_t2 : Fin k0_t2_loop.trips) : Fin 4 → Nat :=
  let c0_176 : Index := 0#32
  let c0_177 : Index := 0#32
  let c0_i32_166 : BitVec 32 := 0#32
  let c1_i32_168 : BitVec 32 := 1#32
  let arg10 : BitVec 32 := Scf.iv c0_i32_166 c1_i32_168 k0_t2
  let c512_i32_175 : BitVec 32 := 512#32
  let v238 : BitVec 32 := Scalar.muli arg10 c512_i32_175
  let v239 : BitVec 32 := v238
  let v240 : Index := Scalar.indexCast v239
  let c0_178 : Index := 0#32
  ![0, 0, v240.toNat, 0]
def k0_off6 (k0_t2 : Fin k0_t2_loop.trips) : Fin 4 → Nat :=
  let c0_179 : Index := 0#32
  let c0_180 : Index := 0#32
  let c0_181 : Index := 0#32
  let c0_i32_166 : BitVec 32 := 0#32
  let c1_i32_168 : BitVec 32 := 1#32
  let arg10 : BitVec 32 := Scf.iv c0_i32_166 c1_i32_168 k0_t2
  let c512_i32_175 : BitVec 32 := 512#32
  let v238 : BitVec 32 := Scalar.muli arg10 c512_i32_175
  let v239 : BitVec 32 := v238
  let v243 : Index := Scalar.indexCast v239
  ![0, 0, 0, v243.toNat]
def k0_mult13 (k0_t1 : Fin k0_t1_loop.trips) : BitVec 32 :=
  let c0_i32_49 : BitVec 32 := 0#32
  let c1_i32_51 : BitVec 32 := 1#32
  let arg9 : BitVec 32 := Scf.iv c0_i32_49 c1_i32_51 k0_t1
  let c1024_i32_172 : BitVec 32 := 1024#32
  let v232 : BitVec 32 := Scalar.muli arg9 c1024_i32_172
  v232
def k0_off7 (k0_t1 : Fin k0_t1_loop.trips) : Fin 3 → Nat :=
  let c0_173 : Index := 0#32
  let c0_174 : Index := 0#32
  let c0_i32_49 : BitVec 32 := 0#32
  let c1_i32_51 : BitVec 32 := 1#32
  let arg9 : BitVec 32 := Scf.iv c0_i32_49 c1_i32_51 k0_t1
  let c1024_i32_172 : BitVec 32 := 1024#32
  let v232 : BitVec 32 := Scalar.muli arg9 c1024_i32_172
  let v233 : BitVec 32 := v232
  let v234 : Index := Scalar.indexCast v233
  ![0, 0, v234.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x8x96 : Shape := ⟨4, ![8, 4096, 8, 96]⟩
abbrev S8x4096x8x64 : Shape := ⟨4, ![8, 4096, 8, 64]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩
abbrev S8x512x4096 : Shape := ⟨3, ![8, 512, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x8x4096x4096, .f32⟩
  | .hbm, ⟨4, _⟩ => ⟨S_, .f32⟩
  | .hbm, ⟨5, _⟩ => ⟨S_, .f32⟩
  | .hbm, ⟨6, _⟩ => ⟨S8x8x4096x4096, .f32⟩
  | .hbm, ⟨7, _⟩ => ⟨S8x8x4096x4096, .f32⟩
  | .hbm, ⟨8, _⟩ => ⟨S_, .f32⟩
  | .hbm, ⟨9, _⟩ => ⟨S8x8x4096, .f32⟩
  | .hbm, ⟨10, _⟩ => ⟨S_, .f32⟩
  | .hbm, ⟨11, _⟩ => ⟨S8x8x4096, .f32⟩
  | .hbm, ⟨12, _⟩ => ⟨S8x8x4096, .f32⟩
  | .hbm, ⟨13, _⟩ => ⟨S8x8x4096x1, .f32⟩
  | .hbm, ⟨14, _⟩ => ⟨S8x8x4096x4096, .f32⟩
  | .hbm, ⟨15, _⟩ => ⟨S8x8x4096x4096, .f32⟩
  | .hbm, ⟨16, _⟩ => ⟨S8x8x4096x4096, .f32⟩
  | .hbm, ⟨17, _⟩ => ⟨S_, .f32⟩
  | .hbm, ⟨18, _⟩ => ⟨S8x8x4096, .f32⟩
  | .hbm, ⟨19, _⟩ => ⟨S8x8x4096x1, .f32⟩
  | .hbm, ⟨20, _⟩ => ⟨S8x8x4096x4096, .f32⟩
  | .hbm, ⟨21, _⟩ => ⟨S8x8x4096x4096, .f32⟩
  | .hbm, ⟨22, _⟩ => ⟨S8x8x64x4096, .f32⟩
  | .hbm, ⟨23, _⟩ => ⟨S8x4096x8x64, .f32⟩
  | .hbm, ⟨24, _⟩ => ⟨S8x4096x512, .f32⟩
  | .hbm, ⟨25, _⟩ => ⟨S8x512x4096, .f32⟩
  | .hbm, ⟨26, _⟩ => ⟨S8x512x4096, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x2048 : Shape := ⟨3, ![8, 4096, 2048]⟩
abbrev S8x4096x512 : Shape := ⟨3, ![8, 4096, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8x512x4096 : Shape := ⟨3, ![8, 512, 4096]⟩
abbrev S1x512x1024 : Shape := ⟨3, ![1, 512, 1024]⟩
abbrev S1x512x2048 : Shape := ⟨3, ![1, 512, 2048]⟩
abbrev S1x512x512 : Shape := ⟨3, ![1, 512, 512]⟩
abbrev S1x256x512 : Shape := ⟨3, ![1, 256, 512]⟩
abbrev S256x512 : Shape := ⟨2, ![256, 512]⟩
abbrev S256x1024 : Shape := ⟨2, ![256, 1024]⟩
abbrev S1x512x256 : Shape := ⟨3, ![1, 512, 256]⟩
abbrev S512x256 : Shape := ⟨2, ![512, 256]⟩
abbrev S1x256x2048 : Shape := ⟨3, ![1, 256, 2048]⟩
abbrev S256x2048 : Shape := ⟨2, ![256, 2048]⟩
abbrev S1x256x1024 : Shape := ⟨3, ![1, 256, 1024]⟩
abbrev S256 : Shape := ⟨1, ![256]⟩
abbrev S256x1 : Shape := ⟨2, ![256, 1]⟩
abbrev S256x2816 : Shape := ⟨2, ![256, 2816]⟩

abbrev nBuf : Space → Nat
  | .hbm => 29
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2048, .f32⟩
  | .hbm, ⟨2, _⟩ => ⟨S8x4096x512, .f32⟩
  | .hbm, ⟨3, _⟩ => ⟨S8x4096x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S8x4096x2048, .bf16⟩
  | .hbm, ⟨25, _⟩ => ⟨S8x4096x512, .bf16⟩
  | .hbm, ⟨26, _⟩ => ⟨S8x512x4096, .f32⟩
  | .hbm, ⟨27, _⟩ => ⟨S8x512x4096, .bf16⟩
  | .hbm, ⟨28, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x2048, .bf16⟩
  | .local _ .vmem, ⟨3, _⟩ => ⟨S1x512x2048, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel2Ideal.lean ====
variable {F : FTy → Type} [FloatOps F] [Named F]
def κ : String → Option EReal := fun
  | "alpha" => some ((Real.sqrt (Real.sqrt 2) : ℝ) : EReal)
  | _ => none
-- ==== Reference2Ideal.lean ====
abbrev S8x4096x1024 : Shape := ⟨3, ![8, 4096, 1024]⟩
abbrev S8x4096x2048 : Shape := ⟨3, ![8, 4096, 2048]⟩
abbrev S8x4096x512 : Shape := ⟨3, ![8, 4096, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x4096x2x1024 : Shape := ⟨4, ![8, 4096, 2, 1024]⟩
abbrev S8x4096x1x1024 : Shape := ⟨4, ![8, 4096, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2048, .f32⟩
  | .hbm, ⟨2, _⟩ => ⟨S8x4096x512, .f32⟩
  | .hbm, ⟨3, _⟩ => ⟨S8x4096x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S8x4096x1024, .f32⟩
  | .hbm, ⟨15, _⟩ => ⟨S8x4096x1024, .f32⟩
  | .hbm, ⟨16, _⟩ => ⟨S8x4096x2x1024, .f32⟩
  | .hbm, ⟨17, _⟩ => ⟨S8x4096x1x1024, .f32⟩
  | .hbm, ⟨18, _⟩ => ⟨S8x4096x1024, .f32⟩
  | .hbm, ⟨19, _⟩ => ⟨S8x4096x1024, .f32⟩
  | .hbm, ⟨20, _⟩ => ⟨S8x4096x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S_, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S_, .f32⟩
  | .hbm, ⟨80, _⟩ => ⟨S8x4096x1, .f32⟩
  | .hbm, ⟨81, _⟩ => ⟨S8x4096x1, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S_, .f32⟩
  | .hbm, ⟨89, _⟩ => ⟨S8x4096x1, .f32⟩
  | .hbm, ⟨90, _⟩ => ⟨S8x4096x1, .f32⟩
  | .hbm, ⟨91, _⟩ => ⟨S8x4096x1024, .f32⟩
  | .hbm, ⟨92, _⟩ => ⟨S8x4096x1024, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S1x1x1024, .f32⟩
  | .hbm, ⟨100, _⟩ => ⟨S8x4096x1024, .f32⟩
  | .hbm, ⟨101, _⟩ => ⟨S8x4096x1024, .f32⟩
  | .hbm, ⟨102, _⟩ => ⟨S1x1x1024, .f32⟩
  | .hbm, ⟨103, _⟩ => ⟨S8x4096x1024, .f32⟩
  | .hbm, ⟨104, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_7 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_9 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024x3232 : Shape := ⟨2, ![1024, 3232]⟩
abbrev S1024x1024 : Shape := ⟨2, ![1024, 1024]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4096x16 : Shape := ⟨2, ![4096, 16]⟩
abbrev S1024x32 : Shape := ⟨2, ![1024, 32]⟩
abbrev S768x384 : Shape := ⟨2, ![768, 384]⟩
abbrev S256x8x128 : Shape := ⟨3, ![256, 8, 128]⟩
abbrev S256x8x64 : Shape := ⟨3, ![256, 8, 64]⟩
abbrev S_ : Shape := ⟨0, ![]⟩
abbrev S256x512 : Shape := ⟨2, ![256, 512]⟩
abbrev S512x256 : Shape := ⟨2, ![512, 256]⟩
abbrev S1024x640 : Shape := ⟨2, ![1024, 640]⟩
abbrev S1024x16 : Shape := ⟨2, ![1024, 16]⟩
abbrev S1024x768 : Shape := ⟨2, ![1024, 768]⟩
abbrev S1024x2048 : Shape := ⟨2, ![1024, 2048]⟩
abbrev S1x384 : Shape := ⟨2, ![1, 384]⟩
abbrev S1x256 : Shape := ⟨2, ![1, 256]⟩
abbrev S4096x32 : Shape := ⟨2, ![4096, 32]⟩
abbrev S32x4096 : Shape := ⟨2, ![32, 4096]⟩
abbrev S4096x128 : Shape := ⟨2, ![4096, 128]⟩
abbrev S8x2x4096x512 : Shape := ⟨4, ![8, 2, 4096, 512]⟩
abbrev S8x8x128x4096 : Shape := ⟨4, ![8, 8, 128, 4096]⟩
abbrev S8x8x4096x128 : Shape := ⟨4, ![8, 8, 4096, 128]⟩
abbrev S8x8x80x4096 : Shape := ⟨4, ![8, 8, 80, 4096]⟩
abbrev S8x4096x2048 : Shape := ⟨3, ![8, 4096, 2048]⟩
abbrev S1x512x1024 : Shape := ⟨3, ![1, 512, 1024]⟩
abbrev S32x512 : Shape := ⟨2, ![32, 512]⟩
abbrev S512x128 : Shape := ⟨2, ![512, 128]⟩
abbrev S1x2x512x512 : Shape := ⟨4, ![1, 2, 512, 512]⟩
abbrev S1x8x128x512 : Shape := ⟨4, ![1, 8, 128, 512]⟩
abbrev S1x8x512x128 : Shape := ⟨4, ![1, 8, 512, 128]⟩
abbrev S1x8x80x512 : Shape := ⟨4, ![1, 8, 80, 512]⟩
abbrev S1x512x2048 : Shape := ⟨3, ![1, 512, 2048]⟩
abbrev S512x1024 : Shape := ⟨2, ![512, 1024]⟩
abbrev S512x768 : Shape := ⟨2, ![512, 768]⟩
abbrev S512x512 : Shape := ⟨2, ![512, 512]⟩
abbrev S1x1x512x512 : Shape := ⟨4, ![1, 1, 512, 512]⟩
abbrev S512x2048 : Shape := ⟨2, ![512, 2048]⟩
abbrev S512x384 : Shape := ⟨2, ![512, 384]⟩
abbrev S512 : Shape := ⟨1, ![512]⟩
abbrev S512x1 : Shape := ⟨2, ![512, 1]⟩
abbrev S1x128 : Shape := ⟨2, ![1, 128]⟩
abbrev S1x1x512x128 : Shape := ⟨4, ![1, 1, 512, 128]⟩
abbrev S768x512 : Shape := ⟨2, ![768, 512]⟩
abbrev S64x512 : Shape := ⟨2, ![64, 512]⟩
abbrev S1x1x64x512 : Shape := ⟨4, ![1, 1, 64, 512]⟩
abbrev S16x512 : Shape := ⟨2, ![16, 512]⟩
abbrev S1x1x32x512 : Shape := ⟨4, ![1, 1, 32, 512]⟩
abbrev S1x1x16x512 : Shape := ⟨4, ![1, 1, 16, 512]⟩

abbrev nBuf : Space → Nat
  | .hbm => 54
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S1024x3232, .f32⟩
  | .hbm, ⟨2, _⟩ => ⟨S1024x1024, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S4096x16, .f32⟩
  | .hbm, ⟨8, _⟩ => ⟨S4096x16, .f32⟩
  | .hbm, ⟨9, _⟩ => ⟨S1024x32, .f32⟩
  | .hbm, ⟨10, _⟩ => ⟨S768x384, .f32⟩
  | .hbm, ⟨11, _⟩ => ⟨S256x8x128, .f32⟩
  | .hbm, ⟨12, _⟩ => ⟨S256x8x64, .f32⟩
  | .hbm, ⟨13, _⟩ => ⟨S_, .i32⟩
  | .hbm, ⟨14, _⟩ => ⟨S_, .f32⟩
  | .hbm, ⟨15, _⟩ => ⟨S256x8x128, .f32⟩
  | .hbm, ⟨16, _⟩ => ⟨S256x1024, .f32⟩
  | .hbm, ⟨17, _⟩ => ⟨S256x8x64, .f32⟩
  | .hbm, ⟨18, _⟩ => ⟨S256x512, .f32⟩
  | .hbm, ⟨19, _⟩ => ⟨S512x256, .f32⟩
  | .hbm, ⟨20, _⟩ => ⟨S1024x1024, .bf16⟩
  | .hbm, ⟨21, _⟩ => ⟨S1024x640, .f32⟩
  | .hbm, ⟨22, _⟩ => ⟨S1024x16, .f32⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S_, .f32⟩
  | .hbm, ⟨27, _⟩ => ⟨S1024x32, .f32⟩
  | .hbm, ⟨28, _⟩ => ⟨S_, .f32⟩
  | .hbm, ⟨29, _⟩ => ⟨S1024x32, .f32⟩
  | .hbm, ⟨30, _⟩ => ⟨S1024x768, .f32⟩
  | .hbm, ⟨31, _⟩ => ⟨S1024x768, .bf16⟩
  | .hbm, ⟨32, _⟩ => ⟨S1024x2048, .f32⟩
  | .hbm, ⟨33, _⟩ => ⟨S1024x2048, .bf16⟩
  | .hbm, ⟨34, _⟩ => ⟨S1x384, .f32⟩
  | .hbm, ⟨35, _⟩ => ⟨S1x256, .f32⟩
  | .hbm, ⟨36, _⟩ => ⟨S768x384, .bf16⟩
  | .hbm, ⟨37, _⟩ => ⟨S256x1024, .bf16⟩
  | .hbm, ⟨38, _⟩ => ⟨S512x256, .bf16⟩
  | .hbm, ⟨39, _⟩ => ⟨S4096x32, .f32⟩
  | .hbm, ⟨40, _⟩ => ⟨S4096x32, .f32⟩
  | .hbm, ⟨41, _⟩ => ⟨S32x4096, .f32⟩
  | .hbm, ⟨42, _⟩ => ⟨S32x4096, .f32⟩
  | .hbm, ⟨43, _⟩ => ⟨S_, .i32⟩
  | .hbm, ⟨44, _⟩ => ⟨S_, .f32⟩
  | .hbm, ⟨45, _⟩ => ⟨S4096x128, .f32⟩
  | .hbm, ⟨46, _⟩ => ⟨S_, .i32⟩
  | .hbm, ⟨47, _⟩ => ⟨S_, .f32⟩
  | .hbm, ⟨48, _⟩ => ⟨S4096x128, .f32⟩
  | .hbm, ⟨49, _⟩ => ⟨S8x2x4096x512, .bf16⟩
  | .hbm, ⟨50, _⟩ => ⟨S8x8x128x4096, .bf16⟩
  | .hbm, ⟨51, _⟩ => ⟨S8x8x4096x128, .bf16⟩
  | .hbm, ⟨52, _⟩ => ⟨S8x8x80x4096, .bf16⟩
  | .hbm, ⟨53, _⟩ => ⟨S8x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x768, .bf16⟩
  | .local _ .vmem, ⟨4, _⟩ => ⟨S1024x2048, .bf16⟩
  | .local _ .vmem, ⟨5, _⟩ => ⟨S1x384, .f32⟩
  | .local _ .vmem, ⟨6, _⟩ => ⟨S1x256, .f32⟩
  | .local _ .vmem, ⟨7, _⟩ => ⟨S768x384, .bf16⟩
  | .local _ .vmem, ⟨8, _⟩ => ⟨S256x1024, .bf16⟩
  | .local _ .vmem, ⟨9, _⟩ => ⟨S512x256, .bf16⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x2x512x512, .bf16⟩
  | .local _ .vmem, ⟨19, _⟩ => ⟨S1x2x512x512, .bf16⟩
  | .local _ .vmem, ⟨20, _⟩ => ⟨S1x8x128x512, .bf16⟩
  | .local _ .vmem, ⟨21, _⟩ => ⟨S1x8x128x512, .bf16⟩
  | .local _ .vmem, ⟨22, _⟩ => ⟨S1x8x512x128, .bf16⟩
  | .local _ .vmem, ⟨23, _⟩ => ⟨S1x8x512x128, .bf16⟩
  | .local _ .vmem, ⟨24, _⟩ => ⟨S1x8x80x512, .bf16⟩
  | .local _ .vmem, ⟨25, _⟩ => ⟨S1x8x80x512, .bf16⟩
  | .local _ .vmem, ⟨26, _⟩ => ⟨S1x512x2048, .bf16⟩
  | .local _ .vmem, ⟨27, _⟩ => ⟨S1x512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_1 : Ref sig .tc := ⟨.hbm, 43, rfl⟩
abbrev main_call1_v0 : Ref sig .tc := ⟨.hbm, 44, rfl⟩
abbrev main_v30 : Ref sig .tc := ⟨.hbm, 45, rfl⟩
abbrev main_c_2 : Ref sig .tc := ⟨.hbm, 46, rfl⟩
abbrev main_call2_v0 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_v32_2 : Ref sig .tc := ⟨.hbm, 51, rfl⟩
abbrev main_v32_3 : Ref sig .tc := ⟨.hbm, 52, rfl⟩
abbrev main_v32_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x2x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x80x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S8x4096x1024 : Shape := ⟨3, ![8, 4096, 1024]⟩
abbrev S1024x3232 : Shape := ⟨2, ![1024, 3232]⟩
abbrev S1024x1024 : Shape := ⟨2, ![1024, 1024]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4096x16 : Shape := ⟨2, ![4096, 16]⟩
abbrev S8x4096x3232 : Shape := ⟨3, ![8, 4096, 3232]⟩
abbrev S8x4096x2x512 : Shape := ⟨4, ![8, 4096, 2, 512]⟩
abbrev S8x2x4096x512 : Shape := ⟨4, ![8, 2, 4096, 512]⟩
abbrev S8x4096x384 : Shape := ⟨3, ![8, 4096, 384]⟩
abbrev S_ : Shape := ⟨0, ![]⟩
abbrev S8x4096 : Shape := ⟨2, ![8, 4096]⟩
abbrev S8x4096x1 : Shape := ⟨3, ![8, 4096, 1]⟩
abbrev S1x1x384 : Shape := ⟨3, ![1, 1, 384]⟩
abbrev S8x4096x768 : Shape := ⟨3, ![8, 4096, 768]⟩
abbrev S8x4096x8x96 : Shape := ⟨4, ![8, 4096, 8, 96]⟩
abbrev S8x4096x8x64 : Shape := ⟨4, ![8, 4096, 8, 64]⟩
abbrev S8x4096x8x32 : Shape := ⟨4, ![8, 4096, 8, 32]⟩
abbrev S1x4096x1x16 : Shape := ⟨4, ![1, 4096, 1, 16]⟩
abbrev S8x4096x8x16 : Shape := ⟨4, ![8, 4096, 8, 16]⟩
abbrev S8x4096x8x128 : Shape := ⟨4, ![8, 4096, 8, 128]⟩
abbrev S8x4096x256 : Shape := ⟨3, ![8, 4096, 256]⟩
abbrev S1x1x256 : Shape := ⟨3, ![1, 1, 256]⟩
abbrev S8x4096x32 : Shape := ⟨3, ![8, 4096, 32]⟩
abbrev S8x4096x1x32 : Shape := ⟨4, ![8, 4096, 1, 32]⟩
abbrev S8x4096x1x16 : Shape := ⟨4, ![8, 4096, 1, 16]⟩
abbrev S8x4096x8x1 : Shape := ⟨4, ![8, 4096, 8, 1]⟩
abbrev S8x4096x8x31 : Shape := ⟨4, ![8, 4096, 8, 31]⟩
abbrev S8x4096x8x80 : Shape := ⟨4, ![8, 4096, 8, 80]⟩
abbrev S8x4096x2048 : Shape := ⟨3, ![8, 4096, 2048]⟩
abbrev S8x8x128x4096 : Shape := ⟨4, ![8, 8, 128, 4096]⟩
abbrev S8x8x4096x128 : Shape := ⟨4, ![8, 8, 4096, 128]⟩
abbrev S8x8x80x4096 : Shape := ⟨4, ![8, 8, 80, 4096]⟩

abbrev nBuf : Space → Nat
  | .hbm => 116
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x3232, .f32⟩
  | .hbm, ⟨2, _⟩ => ⟨S1024x1024, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S4096x16, .f32⟩
  | .hbm, ⟨8, _⟩ => ⟨S4096x16, .f32⟩
  | .hbm, ⟨9, _⟩ => ⟨S8x4096x3232, .f32⟩
  | .hbm, ⟨10, _⟩ => ⟨S8x4096x1024, .f32⟩
  | .hbm, ⟨11, _⟩ => ⟨S8x4096x2x512, .f32⟩
  | .hbm, ⟨12, _⟩ => ⟨S8x2x4096x512, .f32⟩
  | .hbm, ⟨13, _⟩ => ⟨S8x4096x384, .f32⟩
  | .hbm, ⟨14, _⟩ => ⟨S8x4096x384, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x384, .f32⟩
  | .hbm, ⟨26, _⟩ => ⟨S8x4096x384, .f32⟩
  | .hbm, ⟨27, _⟩ => ⟨S1x1x384, .f32⟩
  | .hbm, ⟨28, _⟩ => ⟨S8x4096x384, .f32⟩
  | .hbm, ⟨29, _⟩ => ⟨S8x4096x384, .f32⟩
  | .hbm, ⟨30, _⟩ => ⟨S8x4096x768, .f32⟩
  | .hbm, ⟨31, _⟩ => ⟨S8x4096x8x96, .f32⟩
  | .hbm, ⟨32, _⟩ => ⟨S8x4096x8x64, .f32⟩
  | .hbm, ⟨33, _⟩ => ⟨S8x4096x8x32, .f32⟩
  | .hbm, ⟨34, _⟩ => ⟨S1x4096x1x16, .f32⟩
  | .hbm, ⟨35, _⟩ => ⟨S1x4096x1x16, .f32⟩
  | .hbm, ⟨36, _⟩ => ⟨S8x4096x8x16, .f32⟩
  | .hbm, ⟨37, _⟩ => ⟨S8x4096x8x16, .f32⟩
  | .hbm, ⟨38, _⟩ => ⟨S8x4096x8x16, .f32⟩
  | .hbm, ⟨39, _⟩ => ⟨S8x4096x8x16, .f32⟩
  | .hbm, ⟨40, _⟩ => ⟨S8x4096x8x16, .f32⟩
  | .hbm, ⟨41, _⟩ => ⟨S8x4096x8x16, .f32⟩
  | .hbm, ⟨42, _⟩ => ⟨S8x4096x8x16, .f32⟩
  | .hbm, ⟨43, _⟩ => ⟨S8x4096x8x16, .f32⟩
  | .hbm, ⟨44, _⟩ => ⟨S8x4096x8x16, .f32⟩
  | .hbm, ⟨45, _⟩ => ⟨S8x4096x8x16, .f32⟩
  | .hbm, ⟨46, _⟩ => ⟨S8x4096x8x16, .f32⟩
  | .hbm, ⟨47, _⟩ => ⟨S8x4096x8x16, .f32⟩
  | .hbm, ⟨48, _⟩ => ⟨S8x4096x8x32, .f32⟩
  | .hbm, ⟨49, _⟩ => ⟨S_, .f32⟩
  | .hbm, ⟨50, _⟩ => ⟨S8x4096x8x32, .f32⟩
  | .hbm, ⟨51, _⟩ => ⟨S8x4096x8x128, .f32⟩
  | .hbm, ⟨52, _⟩ => ⟨S8x4096x256, .f32⟩
  | .hbm, ⟨53, _⟩ => ⟨S8x4096x256, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x1, .f32⟩
  | .hbm, ⟨64, _⟩ => ⟨S8x4096x256, .f32⟩
  | .hbm, ⟨65, _⟩ => ⟨S8x4096x256, .f32⟩
  | .hbm, ⟨66, _⟩ => ⟨S1x1x256, .f32⟩
  | .hbm, ⟨67, _⟩ => ⟨S8x4096x256, .f32⟩
  | .hbm, ⟨68, _⟩ => ⟨S8x4096x256, .f32⟩
  | .hbm, ⟨69, _⟩ => ⟨S8x4096x1024, .f32⟩
  | .hbm, ⟨70, _⟩ => ⟨S8x4096x8x128, .f32⟩
  | .hbm, ⟨71, _⟩ => ⟨S8x4096x32, .f32⟩
  | .hbm, ⟨72, _⟩ => ⟨S8x4096x1x32, .f32⟩
  | .hbm, ⟨73, _⟩ => ⟨S1x4096x1x16, .f32⟩
  | .hbm, ⟨74, _⟩ => ⟨S1x4096x1x16, .f32⟩
  | .hbm, ⟨75, _⟩ => ⟨S8x4096x1x16, .f32⟩
  | .hbm, ⟨76, _⟩ => ⟨S8x4096x1x16, .f32⟩
  | .hbm, ⟨77, _⟩ => ⟨S8x4096x1x16, .f32⟩
  | .hbm, ⟨78, _⟩ => ⟨S8x4096x1x16, .f32⟩
  | .hbm, ⟨79, _⟩ => ⟨S8x4096x1x16, .f32⟩
  | .hbm, ⟨80, _⟩ => ⟨S8x4096x1x16, .f32⟩
  | .hbm, ⟨81, _⟩ => ⟨S8x4096x1x16, .f32⟩
  | .hbm, ⟨82, _⟩ => ⟨S8x4096x1x16, .f32⟩
  | .hbm, ⟨83, _⟩ => ⟨S8x4096x1x16, .f32⟩
  | .hbm, ⟨84, _⟩ => ⟨S8x4096x1x16, .f32⟩
  | .hbm, ⟨85, _⟩ => ⟨S8x4096x1x16, .f32⟩
  | .hbm, ⟨86, _⟩ => ⟨S8x4096x1x16, .f32⟩
  | .hbm, ⟨87, _⟩ => ⟨S8x4096x1x32, .f32⟩
  | .hbm, ⟨88, _⟩ => ⟨S8x4096x8x64, .f32⟩
  | .hbm, ⟨89, _⟩ => ⟨S8x4096x8x32, .f32⟩
  | .hbm, ⟨90, _⟩ => ⟨S_, .f32⟩
  | .hbm, ⟨91, _⟩ => ⟨S8x4096x8x1, .f32⟩
  | .hbm, ⟨92, _⟩ => ⟨S_, .f32⟩
  | .hbm, ⟨93, _⟩ => ⟨S8x4096x8x31, .f32⟩
  | .hbm, ⟨94, _⟩ => ⟨S8x4096x8x128, .f32⟩
  | .hbm, ⟨95, _⟩ => ⟨S8x4096x8x64, .f32⟩
  | .hbm, ⟨96, _⟩ => ⟨S_, .f32⟩
  | .hbm, ⟨97, _⟩ => ⟨S8x4096x8x16, .f32⟩
  | .hbm, ⟨98, _⟩ => ⟨S8x4096x8x80, .f32⟩
  | .hbm, ⟨99, _⟩ => ⟨S8x4096x2048, .f32⟩
  | .hbm, ⟨100, _⟩ => ⟨S8x4096x2048, .f32⟩
  | .hbm, ⟨101, _⟩ => ⟨S8x4096x2048, .f32⟩
  | .hbm, ⟨102, _⟩ => ⟨S_, .f32⟩
  | .hbm, ⟨103, _⟩ => ⟨S8x4096x2048, .f32⟩
  | .hbm, ⟨104, _⟩ => ⟨S8x4096x2048, .f32⟩
  | .hbm, ⟨105, _⟩ => ⟨S_, .f32⟩
  | .hbm, ⟨106, _⟩ => ⟨S8x4096x2048, .f32⟩
  | .hbm, ⟨107, _⟩ => ⟨S8x4096x2048, .f32⟩
  | .hbm, ⟨108, _⟩ => ⟨S8x2x4096x512, .bf16⟩
  | .hbm, ⟨109, _⟩ => ⟨S8x8x128x4096, .f32⟩
  | .hbm, ⟨110, _⟩ => ⟨S8x8x128x4096, .bf16⟩
  | .hbm, ⟨111, _⟩ => ⟨S8x8x4096x128, .f32⟩
  | .hbm, ⟨112, _⟩ => ⟨S8x8x4096x128, .bf16⟩
  | .hbm, ⟨113, _⟩ => ⟨S8x8x80x4096, .f32⟩
  | .hbm, ⟨114, _⟩ => ⟨S8x8x80x4096, .bf16⟩
  | .hbm, ⟨115, _⟩ => ⟨S8x4096x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_6 : Ref sig .tc := ⟨.hbm, 90, rfl⟩
abbrev main_v74 : Ref sig .tc := ⟨.hbm, 91, rfl⟩
abbrev main_cst_7 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_8 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩

abbrev nD : Nat := 1
abbrev τ : Topo := Topo.v7x

variable {F : FTy → Type} [FloatOps F]
-- ==== Proof.Attn.Tile.lean ====
/-
  What one trip of the kernel's loop over the query tiles leaves in the output block, as functions of
  the three blocks the grid point reads: `x2` the queries (channel × position), `x3` the keys
  (position × channel), `x4` the values (channel × position).
-/
module

public import proofs.«01_k».proof.Proof.Gen.KernelIdeal.Frame
public import proofs.«01_k».proof.Proof.Gen.KernelIdeal.Loops

@[expose] public section

noncomputable section

namespace Cert.Proof.Attn

open Cert.KernelIdeal Cert.KernelIdeal.Gen
open Idealize.ShloMosaic Idealize.ShloMosaic.TcCoe
open Idealize.ShloMosaic.View (ld)

variable {F : FTy → Type} [FloatOps F]

/-- The query tile of trip `k`, as the shifted pass reads it. -/
def qTile (x2 : Vec F S1x1x128x4096 .bf16) (k : Fin k0_t1_loop.trips) : Vec F S1x1x128x1024 .bf16 :=
  ld x2 (Rect.unit (s := S1x1x128x4096) (k0_off2 k) S1x1x128x1024.size (k0_off2_inb k))

/-- The query tile of trip `k`, as the running-maximum pass reads it. -/
def qTile' (x2 : Vec F S1x1x128x4096 .bf16) (k : Fin k0_t1_loop.trips) : Vec F S1x1x128x1024 .bf16 :=
  ld x2 (Rect.unit (s := S1x1x128x4096) (k0_off4 k) S1x1x128x1024.size (k0_off4_inb k))

/-- The key block of 512 positions starting at a literal offset. -/
def kAt (x3 : Vec F S1x1x4096x128 .bf16) (off : Fin 4 → ℕ) (h : ∀ a, off a + S1x1x512x128.size a ≤ S1x1x4096x128.size a) :
    Vec F S1x1x512x128 .bf16 :=
  ld x3 (Rect.unit (s := S1x1x4096x128) off S1x1x512x128.size h)

/-- The value block of 512 positions starting at a literal offset. -/
def vAt (x4 : Vec F S1x1x80x4096 .bf16) (off : Fin 4 → ℕ) (h : ∀ a, off a + S1x1x80x512.size a ≤ S1x1x80x4096.size a) :
    Vec F S1x1x80x512 .bf16 :=
  ld x4 (Rect.unit (s := S1x1x80x4096) off S1x1x80x512.size h)

/-- The largest squared norm over the keys, as the kernel computes it before its loop. -/
def keyMax (x3 : Vec F S1x1x4096x128 .bf16) : F .f32 :=
  k0_pay1 (F := F) (k0_pay20 (F := F))
    (k0_pay22 (k0_pay20 (F := F))
      (k0_pay21 (kAt x3 (k0_off1 0#32) (k0_off1_inb 0)) (kAt x3 (k0_off1 1#32) (k0_off1_inb 1)) (kAt x3 (k0_off1 2#32) (k0_off1_inb 2)))
      (kAt x3 (k0_off1 3#32) (k0_off1_inb 3)) (kAt x3 (k0_off1 4#32) (k0_off1_inb 4)) (kAt x3 (k0_off1 5#32) (k0_off1_inb 5)))
    (kAt x3 (k0_off1 6#32) (k0_off1_inb 6)) (kAt x3 (k0_off1 7#32) (k0_off1_inb 7))

/-- The row index of a query tile, which tells the lane that carries the shift. -/
abbrev lane : IVec S128x1024 32 := iota .tc S128x1024 32 [0] iota_S128x1024_d0_w32

/-- The query tile with its shift in lane 96. -/
def qShift (km : F .f32) (x2 : Vec F S1x1x128x4096 .bf16) (k : Fin k0_t1_loop.trips) : FVec F S128x1024 .bf16 :=
  k0_pay9 km lane (qTile x2 k)

section Fast
variable (qa : FVec F S128x1024 .bf16) (x3 : Vec F S1x1x4096x128 .bf16) (x4 : Vec F S1x1x80x4096 .bf16)

/-- The accumulator of the shifted pass after three blocks. -/
def fastA : FVec F S80x1024 .f32 :=
  k0_pay13 (k0_pay10 (kAt x3 ![0, 0, 0, 0] inb_S1x1x4096x128_S1x1x512x128_0_0_0_0) qa)
    (k0_pay11 (kAt x3 ![0, 0, 512, 0] inb_S1x1x4096x128_S1x1x512x128_0_0_512_0) qa)
    (vAt x4 ![0, 0, 0, 0] inb_S1x1x80x4096_S1x1x80x512_0_0_0_0)
    (kAt x3 ![0, 0, 1024, 0] inb_S1x1x4096x128_S1x1x512x128_0_0_1024_0) qa
    (vAt x4 ![0, 0, 0, 512] inb_S1x1x80x4096_S1x1x80x512_0_0_0_512)
    (vAt x4 ![0, 0, 0, 1024] inb_S1x1x80x4096_S1x1x80x512_0_0_0_1024)

/-- The accumulator of the shifted pass after six blocks. -/
def fastB : FVec F S80x1024 .f32 :=
  k0_pay16 (k0_pay12 (kAt x3 ![0, 0, 1536, 0] inb_S1x1x4096x128_S1x1x512x128_0_0_1536_0) qa)
    (fastA qa x3 x4)
    (k0_pay14 (kAt x3 ![0, 0, 2048, 0] inb_S1x1x4096x128_S1x1x512x128_0_0_2048_0)) qa
    (vAt x4 ![0, 0, 0, 1536] inb_S1x1x80x4096_S1x1x80x512_0_0_0_1536)
    (kAt x3 ![0, 0, 2560, 0] inb_S1x1x4096x128_S1x1x512x128_0_0_2560_0) qa
    (vAt x4 ![0, 0, 0, 2048] inb_S1x1x80x4096_S1x1x80x512_0_0_0_2048)
    (vAt x4 ![0, 0, 0, 2560] inb_S1x1x80x4096_S1x1x80x512_0_0_0_2560)

/-- The output tile of the shifted pass. -/
def fastTile : FVec F S1x64x1024 .bf16 :=
  k0_pay18 (k0_pay15 (kAt x3 ![0, 0, 3072, 0] inb_S1x1x4096x128_S1x1x512x128_0_0_3072_0) qa) (fastB qa x3 x4)
    (kAt x3 ![0, 0, 3584, 0] inb_S1x1x4096x128_S1x1x512x128_0_0_3584_0) qa
    (vAt x4 ![0, 0, 0, 3072] inb_S1x1x80x4096_S1x1x80x512_0_0_0_3072)
    (vAt x4 ![0, 0, 0, 3584] inb_S1x1x80x4096_S1x1x80x512_0_0_0_3584)

/-- The word the kernel branches on: whether some denominator of the shifted pass came out too small. -/
def again : BitVec 1 :=
  Scalar.cmpi .ne (Scalar.extui (Scalar.xori (Scalar.cmpf .oge
    (k0_pay19 (k0_pay15 (kAt x3 ![0, 0, 3072, 0] inb_S1x1x4096x128_S1x1x512x128_0_0_3072_0) qa) (fastB qa x3 x4)
      (kAt x3 ![0, 0, 3584, 0] inb_S1x1x4096x128_S1x1x512x128_0_0_3584_0) qa
      (vAt x4 ![0, 0, 0, 3072] inb_S1x1x80x4096_S1x1x80x512_0_0_0_3072)
      (vAt x4 ![0, 0, 0, 3584] inb_S1x1x80x4096_S1x1x80x512_0_0_0_3584))
    (Scalar.ofBits .f32 0x21800000#32)) 1#1)) 0#32

end Fast

section Slow
variable (q : Vec F S1x1x128x1024 .bf16) (x3 : Vec F S1x1x4096x128 .bf16) (x4 : Vec F S1x1x80x4096 .bf16)

/-- The running maximum and the rescaled accumulator before block `n` of the second pass. -/
def slowSt : ℕ → FVec F S1x1024 .f32 × FVec F S80x1024 .f32
  | 0 => (k0_pay2, k0_pay3)
  | n + 1 =>
    if h : n < k0_t2_loop.trips then
      (k0_pay7 q (kAt x3 (k0_off5 ⟨n, h⟩) (k0_off5_inb ⟨n, h⟩)) (slowSt n).1,
       k0_pay6 q (kAt x3 (k0_off5 ⟨n, h⟩) (k0_off5_inb ⟨n, h⟩)) (vAt x4 (k0_off6 ⟨n, h⟩) (k0_off6_inb ⟨n, h⟩)) (slowSt n).1 (slowSt n).2)
    else slowSt n

theorem slowSt_succ (k : Fin k0_t2_loop.trips) :
    slowSt q x3 x4 (k.val + 1)
      = (k0_pay7 q (kAt x3 (k0_off5 k) (k0_off5_inb k)) (slowSt q x3 x4 k.val).1,
         k0_pay6 q (kAt x3 (k0_off5 k) (k0_off5_inb k)) (vAt x4 (k0_off6 k) (k0_off6_inb k)) (slowSt q x3 x4 k.val).1 (slowSt q x3 x4 k.val).2) := by
  rw [slowSt]; exact dif_pos k.isLt

/-- The output tile of the second pass. -/
def slowTile : FVec F S1x64x1024 .bf16 := k0_pay8 (slowSt q x3 x4 k0_t2_loop.trips).2

end Slow

/-- What trip `k` writes, last first: the shifted pass's tile, and over it the second pass's if asked for. -/
def tripPieces (km : F .f32) (x2 : Vec F S1x1x128x4096 .bf16) (x3 : Vec F S1x1x4096x128 .bf16) (x4 : Vec F S1x1x80x4096 .bf16)
    (k : Fin k0_t1_loop.trips) : List (View.Piece (Elt F) S1x64x4096 .bf16) :=
  if again (qShift km x2 k) x3 x4 = 1#1 then
    [⟨Rect.unit (s := S1x64x4096) (k0_off7 k) S1x64x1024.size (k0_off7_inb k), slowTile (qTile' x2 k) x3 x4⟩,
     ⟨Rect.unit (s := S1x64x4096) (k0_off3 k) S1x64x1024.size (k0_off3_inb k), fastTile (qShift km x2 k) x3 x4⟩]
  else
    [⟨Rect.unit (s := S1x64x4096) (k0_off3 k) S1x64x1024.size (k0_off3_inb k), fastTile (qShift km x2 k) x3 x4⟩]

/-- What the trips before `n` write, last first. -/
def pieces (km : F .f32) (x2 : Vec F S1x1x128x4096 .bf16) (x3 : Vec F S1x1x4096x128 .bf16) (x4 : Vec F S1x1x80x4096 .bf16) :
    ℕ → List (View.Piece (Elt F) S1x64x4096 .bf16)
  | 0 => []
  | n + 1 => if h : n < k0_t1_loop.trips then tripPieces km x2 x3 x4 ⟨n, h⟩ ++ pieces km x2 x3 x4 n else pieces km x2 x3 x4 n

theorem pieces_succ (km : F .f32) (x2 : Vec F S1x1x128x4096 .bf16) (x3 : Vec F S1x1x4096x128 .bf16) (x4 : Vec F S1x1x80x4096 .bf16)
    (k : Fin k0_t1_loop.trips) :
    pieces km x2 x3 x4 (k.val + 1) = tripPieces km x2 x3 x4 k ++ pieces km x2 x3 x4 k.val := by
  rw [pieces]; exact dif_pos k.isLt

/-- The output block a grid point leaves. -/
def outBlk (x2 : Vec F S1x1x128x4096 .bf16) (x3 : Vec F S1x1x4096x128 .bf16) (x4 : Vec F S1x1x80x4096 .bf16) :
    Vec F S1x64x4096 .bf16 :=
  View.canon (Val := Elt F) (pieces (keyMax x3) x2 x3 x4 k0_t1_loop.trips)

end Cert.Proof.Attn

end
-- ==== Proof.Attn.Trip.lean ====
/-
  One trip of the kernel's loop over the query tiles: what it reads stays, and the output block gets the
  trip's pieces written over what it held.
-/
module

public import proofs.«01_k».proof.Proof.Attn.Tile
public import Idealize.ShloMosaic.Lib.VecWindow

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg2 : Memref sig .tc .vmem S1x1x128x4096 .bf16) (harg2 : arg2.IsWhole) (arg3 : Memref sig .tc .vmem S1x1x4096x128 .bf16) (harg3 : arg3.IsWhole) (arg4 : Memref sig .tc .vmem S1x1x80x4096 .bf16) (harg4 : arg4.IsWhole) (arg5 : Memref sig .tc .vmem S1x64x4096 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole)

section Slow
variable (v215 : Vec F S1x1x128x1024 .bf16)
    (X3 : BufTy.Contents (Elt F) arg3.view.ty) (X4 : BufTy.Contents (Elt F) arg4.view.ty)
    (G7 : BufTy.Contents (Elt F) arg7.view.ty) (G8 : BufTy.Contents (Elt F) arg8.view.ty)

/-- The piece one trip of the second pass writes over the running maximum. -/
theorem t2_pieces7 (k : Fin k0_t2_loop.trips) :
    (trip_k0_t2 (F := F) Variants.none c none i arg2 harg2 arg3 harg3 arg4 harg4 arg5 harg5 arg6 harg6 arg7 harg7 arg8 harg8 v215 X3 X4 k).1 G7 G8
      = [⟨Rect.unit (s := S1x1024) ![0, 0] S1x1024.size inb_S1x1024_S1x1024_0_0,
          k0_pay7 v215 (kAt (arg3.view.read (Elt F) X3) (k0_off5 k) (k0_off5_inb k)) (arg7.view.readAt (Elt F) (Rect.unit (s := S1x1024) ![0, 0] S1x1024.size inb_S1x1024_S1x1024_0_0).toLoadRect G7)⟩] := by
  unfold trip_k0_t2; rfl

/-- The piece one trip of the second pass writes over the accumulator. -/
theorem t2_pieces8 (k : Fin k0_t2_loop.trips) :
    (trip_k0_t2 (F := F) Variants.none c none i arg2 harg2 arg3 harg3 arg4 harg4 arg5 harg5 arg6 harg6 arg7 harg7 arg8 harg8 v215 X3 X4 k).2.1 G7 G8
      = [⟨Rect.unit (s := S80x1024) ![0, 0] S80x1024.size inb_S80x1024_S80x1024_0_0,
          k0_pay6 v215 (kAt (arg3.view.read (Elt F) X3) (k0_off5 k) (k0_off5_inb k)) (vAt (arg4.view.read (Elt F) X4) (k0_off6 k) (k0_off6_inb k))
            (arg7.view.readAt (Elt F) (Rect.unit (s := S1x1024) ![0, 0] S1x1024.size inb_S1x1024_S1x1024_0_0).toLoadRect G7)
            (arg8.view.readAt (Elt F) (Rect.unit (s := S80x1024) ![0, 0] S80x1024.size inb_S80x1024_S80x1024_0_0).toLoadRect G8)⟩] := by
  unfold trip_k0_t2; rfl

/-- What the second pass's loop leaves in its two scratch buffers is the state of the recursion. -/
theorem slow_state (h7 : arg7.view.read (Elt F) G7 = k0_pay2) (h8 : arg8.view.read (Elt F) G8 = k0_pay3) (n : ℕ)
    (hn : n ≤ k0_t2_loop.trips) :
    arg7.view.read (Elt F) (arg7.view.writes (Elt F) G7 (pb_k0_t2 (F := F) Variants.none c none i arg2 harg2 arg3 harg3 arg4 harg4 arg5 harg5 arg6 harg6 arg7 harg7 arg8 harg8 v215 X3 X4 G7 G8 n).1)
        = (slowSt v215 (arg3.view.read (Elt F) X3) (arg4.view.read (Elt F) X4) n).1
      ∧ arg8.view.read (Elt F) (arg8.view.writes (Elt F) G8 (pb_k0_t2 (F := F) Variants.none c none i arg2 harg2 arg3 harg3 arg4 harg4 arg5 harg5 arg6 harg6 arg7 harg7 arg8 harg8 v215 X3 X4 G7 G8 n).2)
        = (slowSt v215 (arg3.view.read (Elt F) X3) (arg4.view.read (Elt F) X4) n).2 := by
  induction n with
  | zero => exact ⟨h7, h8⟩
  | succ n ih =>
    obtain ⟨ih7, ih8⟩ := ih (Nat.le_of_succ_le hn)
    rw [show n + 1 = (⟨n, hn⟩ : Fin k0_t2_loop.trips).val + 1 from rfl, pb_k0_t2_succ (F := F)]
    rw [slowSt_succ]
    unfold tripL_k0_t2
    dsimp only
    rw [t2_pieces7, t2_pieces8]
    rw [List.singleton_append, List.singleton_append]
    erw [View.read_writes_full, View.read_writes_full]
    rw [View.readAt_full, View.readAt_full, ih7, ih8]
    exact ⟨rfl, rfl⟩

end Slow

variable (v0 : FVec F S16x128 .bf16) (v61 : FVec F S16x512 .f32) (v67 : Vec F S1x1x512x128 .bf16) (v77 : Vec F S1x1x512x128 .bf16)

theorem trip (E : Set ℕ)
    (X2 : BufTy.Contents (Elt F) arg2.view.ty) (X3 : BufTy.Contents (Elt F) arg3.view.ty) (X4 : BufTy.Contents (Elt F) arg4.view.ty)
    (f5 : BufTy.Contents (Elt F) arg5.view.ty) (f6 : BufTy.Contents (Elt F) arg6.view.ty) (f7 : BufTy.Contents (Elt F) arg7.view.ty) (f8 : BufTy.Contents (Elt F) arg8.view.ty)
    (k : Fin k0_t1_loop.trips) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄)
    ⊢ wp frame (wpE (defs₀ (F := F)) Variants.none (c : Thread nD τ) none) E (k0_t1_body (F := F) i arg2 harg2 arg3 harg3 arg4 harg4 arg5 harg5 arg6 harg6 arg7 harg7 arg8 harg8 v0 v61 v67 v77 lane k ())
      (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} arg5.view.writes (Elt F) f5 (tripPieces (k0_pay1 v0 v61 v67 v77) (arg2.view.read (Elt F) X2) (arg3.view.read (Elt F) X3) (arg4.view.read (Elt F) X4) k)) ∗ (∃ f6, arg6.view.loc (c : Thread nD τ) ↦[arg6.view.set]{fullShare} f6) ∗ (∃ f7, arg7.view.loc (c : Thread nD τ) ↦[arg7.view.set]{fullShare} f7) ∗ (∃ f8, arg8.view.loc (c : Thread nD τ) ↦[arg8.view.set]{fullShare} f8))) := by
  have hk : k.val < 4 := Nat.lt_of_lt_of_le k.isLt k0_t1_abs.2.1
  unfold k0_t1_body
  iintro ⟨H2, H3, H4, H5, H6, H7, H8⟩
  sl_exec
  have e115 : trip.sl.v115 arg2 arg6 v0 v61 v67 v77 X2 k = qShift (k0_pay1 v0 v61 v67 v77) (arg2.view.read (Elt F) X2) k := by
    unfold trip.sl.v115
    exact View.readCov_full _ _ _ _ _
  have ea : trip.sl.v211 arg2 arg3 arg4 arg6 v0 v61 v67 v77 X2 X3 X4 k = again (qShift (k0_pay1 v0 v61 v67 v77) (arg2.view.read (Elt F) X2) k) (arg3.view.read (Elt F) X3) (arg4.view.read (Elt F) X4) := by
    rw [← e115]; rfl
  have ef : k0_pay18 (trip.sl.r_5 arg2 arg3 arg6 v0 v61 v67 v77 X2 X3 k)
            (trip.sl.r_6 arg2 arg3 arg4 arg6 v0 v61 v67 v77 X2 X3 X4 k)
            (View.readAt (Elt F) arg3.view
              (Rect.unit (s := S1x1x4096x128) ![0, 0, 3584, 0] S1x1x512x128.size inb_S1x1x4096x128_S1x1x512x128_0_0_3584_0).toLoadRect X3)
            (trip.sl.v115 arg2 arg6 v0 v61 v67 v77 X2 k)
            (View.readAt (Elt F) arg4.view
              (Rect.unit (s := S1x1x80x4096) ![0, 0, 0, 3072] S1x1x80x512.size inb_S1x1x80x4096_S1x1x80x512_0_0_0_3072).toLoadRect X4)
            (View.readAt (Elt F) arg4.view
              (Rect.unit (s := S1x1x80x4096) ![0, 0, 0, 3584] S1x1x80x512.size inb_S1x1x80x4096_S1x1x80x512_0_0_0_3584).toLoadRect X4)
      = fastTile (qShift (k0_pay1 v0 v61 v67 v77) (arg2.view.read (Elt F) X2) k) (arg3.view.read (Elt F) X3) (arg4.view.read (Elt F) X4) := by
    rw [← e115]; rfl
  by_cases h : trip.sl.v211 arg2 arg3 arg4 arg6 v0 v61 v67 v77 X2 X3 X4 k = 1#1
  · rw [if_pos h]
    sl_exec
    rw [tripPieces, ← ea, if_pos h, ← ef]
    have es : trip.sl.v226 c i arg2 harg2 arg3 harg3 arg4 harg4 arg5 harg5 arg6 harg6 arg7 harg7 arg8 harg8 X2 X3 X4 k
        = (slowSt (qTile' (arg2.view.read (Elt F) X2) k) (arg3.view.read (Elt F) X3) (arg4.view.read (Elt F) X4) k0_t2_loop.trips).2 := by
      unfold trip.sl.v226 View.readCov
      rw [View.readAt_full, View.writes_append]
      exact (slow_state c i arg2 harg2 arg3 harg3 arg4 harg4 arg5 harg5 arg6 harg6 arg7 harg7 arg8 harg8 _ X3 X4 _ _
        (by unfold trip.sl.H7_1; exact View.read_writes_full _ _ _ _ _) (by unfold trip.sl.H8_1; exact View.read_writes_full _ _ _ _ _) _ le_rfl).2
    rw [slowTile, ← es]
    sl_step
    isplitl [H2]
    · iexact H2
    isplitl [H3]
    · iexact H3
    isplitl [H4]
    · iexact H4
    isplitl [H5]
    · iexact H5
    isplitl [H6]
    · iexists _; iexact H6
    isplitl [H7]
    · iexists _; iexact H7
    iexists _; iexact H8
  · rw [if_neg h]
    sl_exec
    rw [tripPieces, ← ea, if_neg h, ← ef]
    sl_step
    isplitl [H2]
    · iexact H2
    isplitl [H3]
    · iexact H3
    isplitl [H4]
    · iexact H4
    isplitl [H5]
    · iexact H5
    isplitl [H6]
    · iexists _; iexact H6
    isplitl [H7]
    · iexists _; iexact H7
    iexists _; iexact H8

end Cert.Proof.Attn

end
-- ==== Proof.Attn.Body.lean ====
/-
  The kernel's body at a grid point: the loop over the query tiles by its invariant, and the output block it
  leaves as a function of the three blocks it reads.
-/
module

public import proofs.«01_k».proof.Proof.Attn.Trip

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem trips1 : k0_t1_loop.trips = 4 := by decide +kernel

/-! ## The pieces cover the output block -/

section Cover
variable (km : F .f32) (x2 : Vec F S1x1x128x4096 .bf16) (x3 : Vec F S1x1x4096x128 .bf16) (x4 : Vec F S1x1x80x4096 .bf16)

/-- A trip's pieces stay in the list. -/
theorem mem_pieces (k : Fin k0_t1_loop.trips) {p : View.Piece (Elt F) S1x64x4096 .bf16} (hp : p ∈ tripPieces km x2 x3 x4 k) :
    ∀ n : ℕ, k.val < n → n ≤ k0_t1_loop.trips → p ∈ pieces km x2 x3 x4 n
  | 0, h, _ => absurd h (Nat.not_lt_zero _)
  | n + 1, h, hn => by
    rw [show n + 1 = (⟨n, hn⟩ : Fin k0_t1_loop.trips).val + 1 from rfl, pieces_succ]
    by_cases e : k.val = n
    · have : (⟨n, hn⟩ : Fin k0_t1_loop.trips) = k := Fin.ext e.symm
      rw [this]; exact List.mem_append_left _ hp
    · exact List.mem_append_right _ (mem_pieces k hp n (by omega) (by omega))

/-- Every position of the block lies in the piece of its own tile. -/
theorem cover (y : S1x64x4096.Idx) : ∃ p ∈ pieces km x2 x3 x4 k0_t1_loop.trips, y ∈ p.1.set := by
  have h0 : (y 0).val < 1 := (y 0).isLt
  have h1 : (y 1).val < 64 := (y 1).isLt
  have h2 : (y 2).val < 4096 := (y 2).isLt
  have hk : (y 2).val / 1024 < k0_t1_loop.trips := by rw [trips1]; omega
  refine ⟨⟨Rect.unit (s := S1x64x4096) (k0_off3 ⟨_, hk⟩) S1x64x1024.size (k0_off3_inb ⟨_, hk⟩), fastTile (qShift km x2 ⟨_, hk⟩) x3 x4⟩, ?_, ?_⟩
  · refine mem_pieces km x2 x3 x4 ⟨_, hk⟩ ?_ _ hk le_rfl
    unfold tripPieces
    split
    · exact List.mem_cons_of_mem _ List.mem_cons_self
    · exact List.mem_cons_self
  · rw [Rect.mem_set_unit, k0_off3_eq]
    intro a
    fin_cases a
    · show 0 ≤ (y 0).val ∧ (y 0).val < 0 + 1; omega
    · show 0 ≤ (y 1).val ∧ (y 1).val < 0 + 64; omega
    · show 1024 * ((y 2).val / 1024) ≤ (y 2).val ∧ (y 2).val < 1024 * ((y 2).val / 1024) + 1024; omega

end Cover

/-! ## The loop over the query tiles -/

variable (c : Dev nD) (i : grid0.Coords) (arg2 : Memref sig .tc .vmem S1x1x128x4096 .bf16) (harg2 : arg2.IsWhole) (arg3 : Memref sig .tc .vmem S1x1x4096x128 .bf16) (harg3 : arg3.IsWhole) (arg4 : Memref sig .tc .vmem S1x1x80x4096 .bf16) (harg4 : arg4.IsWhole) (arg5 : Memref sig .tc .vmem S1x64x4096 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole)

set_option warn.classDefReducibility false in
/-- Before trip `k` the output block holds the pieces of the earlier trips over what it held before the loop. -/
@[sl_loop] def loopInv_k0_t1 (E : Set ℕ) (v0 : FVec F S16x128 .bf16) (v61 : FVec F S16x512 .f32) (v67 : Vec F S1x1x512x128 .bf16) (v77 : Vec F S1x1x512x128 .bf16)
    (X2 : BufTy.Contents (Elt F) arg2.view.ty) (X3 : BufTy.Contents (Elt F) arg3.view.ty) (X4 : BufTy.Contents (Elt F) arg4.view.ty)
    (G5 : BufTy.Contents (Elt F) arg5.view.ty) :
    LoopInvTy_k0_t1 (F := F) Unit ℕ (UR sig nD τ) ℕ Variants.none c none E i arg2 harg2 arg3 harg3 arg4 harg4 arg5 harg5 arg6 harg6 arg7 harg7 arg8 harg8 v0 v61 v67 v77 (iota .tc S128x1024 32 [0] iota_S128x1024_d0_w32) where
  inv k _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (∃ f, (arg5.view.loc (c : Thread nD τ) ↦[arg5.view.set]{fullShare} f) ∗ ⌜f = arg5.view.writes (Elt F) G5 (pieces (k0_pay1 v0 v61 v67 v77) (arg2.view.read (Elt F) X2) (arg3.view.read (Elt F) X3) (arg4.view.read (Elt F) X4) k)⌝)
      ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f))
  step k acc := by
    iintro ⟨H2, H3, H4, ⟨%f5, H5, %h5⟩, ⟨%f6, H6⟩, ⟨%f7, H7⟩, ⟨%f8, H8⟩⟩
    iapply (wp_wand_r Idealize.ShloMosaic.frame (wpE (defs₀ (F := F)) Variants.none (c : Thread nD τ) none) E)
    isplitl [H2 H3 H4 H5 H6 H7 H8]
    · iapply (trip c i arg2 harg2 arg3 harg3 arg4 harg4 arg5 harg5 arg6 harg6 arg7 harg7 arg8 harg8 v0 v61 v67 v77 E X2 X3 X4 f5 f6 f7 f8 k)
      isplitl [H2]; · iexact H2
      isplitl [H3]; · iexact H3
      isplitl [H4]; · iexact H4
      isplitl [H5]; · iexact H5
      isplitl [H6]; · iexact H6
      isplitl [H7]; · iexact H7
      iexact H8
    iintro %_ ⟨H2, H3, H4, H5, H6, H7, H8⟩
    isplitl [H2]; · iexact H2
    isplitl [H3]; · iexact H3
    isplitl [H4]; · iexact H4
    isplitl [H5]
    · iexists _
      isplitl [H5]; · iexact H5
      ipureintro
      rw [pieces_succ, h5, ← View.writes_append]
    isplitl [H6]; · iexact H6
    isplitl [H7]; · iexact H7
    iexact H8

/-- The body: the three input blocks stay, the output block ends at `outBlk` of them, the scratch at anything. -/
theorem sound_kernel (E : Set ℕ) (x2 : Vec F S1x1x128x4096 .bf16) (x3 : Vec F S1x1x4096x128 .bf16) (x4 : Vec F S1x1x80x4096 .bf16)
    (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (outBlk x2 x3 x4) ∗ (∃ d, owns (c : Thread nD τ) arg6 fullShare d)
            ∗ (∃ d, owns (c : Thread nD τ) arg7 fullShare d) ∗ (∃ d, owns (c : Thread nD τ) arg8 fullShare d)) -∗ K ⟨⟩))
      ⊢ wp frame (wpE (defs₀ (F := F)) Variants.none c none) E (cc0_attention i arg2 harg2 arg3 harg3 arg4 harg4 arg5 harg5 arg6 harg6 arg7 harg7 arg8 harg8) K := by
  simp only [cc0_attention_eq_skeleton]; unfold cc0_attention_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover _ _ _ _)
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

end Cert.Proof.Attn

end
-- ==== Proof.Attn.Run.lean ====
/-
  The run of the kernel's program at any values: every execution terminates, the output array ends at the blocks
  the grid points leave, and every argument array ends as it began.
-/
module

public import proofs.«01_k».proof.Proof.Attn.Body
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline: after the body at a point each input window holds its block still, and the
    output window `outBlk` of the three. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The resting scratch, buffer by buffer. -/
theorem rest_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) := by
  rw [scopedRest0_eq]
  simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3,
    show (dats m 0 c).Φ t.castSucc = Pipeline.ΦA spec0 c from rfl, show (dats m 0 c).Φ t.succ = Pipeline.ΦA spec0 c from rfl,
    Pipeline.ΦA, rest_eq]
  iintro ⟨⟨⟨HS0, HS1, HS2⟩, HP⟩, Ho, ⟨%d0, H0⟩, ⟨%d1, H1⟩, ⟨%d2, H2⟩, ⟨%d3, H3⟩⟩
  iapply (sound_kernel c (grid0.coords t) _ _ _ _ _ _ _ _ _ _ _ _ _ _ Set.univ (iblk m c 0 t) (iblk m c 1 t) (iblk m c 2 t) _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 HP]
  · isplitl [HS0 HS1 HS2]
    · isplitl [HS0]; · iexact HS0
      isplitl [HS1]; · iexact HS1
      iexact HS2
    iexact HP
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the final arrays, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.Attn

end
-- ==== Proof.Attn.Entry.lean ====
/-
  The arrays the launch reads, at an index: the scaled queries with 32 lanes of zeros after the 96, the keys
  with a lane of ones and 31 lanes of zeros, the values with 16 channels of ones.
-/
module

public import proofs.«01_k».proof.Proof.Attn.Run
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe

variable (m : (ℓ : Loc nD τ sig) → Buf (Elt Ideal) ℓ) (c : Dev nD)

/-- The block every window holds at a grid point. -/
theorem idx : ∀ t : Fin cfg0.N, win0_0.index t = ![t.val / 8, t.val % 8, 0, 0] ∧ win0_1.index t = ![t.val / 8, t.val % 8, 0, 0]
    ∧ win0_2.index t = ![t.val / 8, t.val % 8, 0, 0] ∧ win0_3.index t = ![t.val / 8, t.val % 8, 0] := (by decide +kernel : ∀ t : Fin grid0.N, _)

theorem queries_at (b h : Fin 8) (d : Fin 128) (i : Fin 4096) : V m c main_v9 (ix4 b h d i)
    = if hd : d.val < 96 then
        (show EReal from m ((c.tc : Thread nD τ).loc main_arg0) (ix4 b i h ⟨d.val, hd⟩)) *
          Ideal.div 1 (Ideal.sqrt (Ideal.ofBits .f32 1119879168#32) * Ideal.log (Ideal.ofBits .f32 1073741824#32))
      else (0 : EReal) := by
  entry_read
  pointwise

/-- The keys the launch reads: the argument with its heads outside, a lane of ones, 31 lanes of zeros. -/
theorem keys_eq : V m c main_v17 = (truncf .bf16 (concatenate S8x8x4096x128 3
    [⟨S8x8x4096x96, transpose S8x8x4096x96 [0, 2, 1, 3] (m ((c.tc : Thread nD τ).loc main_arg1) : FVec Ideal S8x4096x8x96 .f32)
        transposes_S8x4096x8x96_S8x8x4096x96_0_2_1_3⟩,
     ⟨S8x8x4096x1, broadcastInDim S8x8x4096x1 ![] bcast_S_S8x8x4096x1 (constant S_ .f32 1065353216#32 : FVec Ideal S_ .f32)⟩,
     ⟨S8x8x4096x31, broadcastInDim S8x8x4096x31 ![] bcast_S_S8x8x4096x31 (constant S_ .f32 0#32 : FVec Ideal S_ .f32)⟩]
     concatenates_S8x8x4096x96_S8x8x4096x1_S8x8x4096x31_S8x8x4096x128_d3) bitsLt_bf16_f32 : FVec Ideal S8x8x4096x128 .bf16) := by
  rfl

theorem keys_at (b h : Fin 8) (j : Fin 4096) (d : Fin 128) : V m c main_v17 (ix4 b h j d)
    = if hd : d.val < 96 then (show EReal from m ((c.tc : Thread nD τ).loc main_arg1) (ix4 b j h ⟨d.val, hd⟩))
      else if _h : d.val - 96 < 1 then (1 : EReal) else (0 : EReal) := by
  rw [keys_eq]
  pointwise

/-- The values the launch reads: the argument with its heads outside and the channels before the rows, then 16
    channels of ones. -/
theorem values_eq : V m c main_v18 = (truncf .bf16 (concatenate S8x8x80x4096 2
    [⟨S8x8x64x4096, transpose S8x8x64x4096 [0, 2, 3, 1] (m ((c.tc : Thread nD τ).loc main_arg2) : FVec Ideal S8x4096x8x64 .f32)
        transposes_S8x4096x8x64_S8x8x64x4096_0_2_3_1⟩,
     ⟨S8x8x16x4096, broadcastInDim S8x8x16x4096 ![] bcast_S_S8x8x16x4096 (constant S_ .f32 1065353216#32 : FVec Ideal S_ .f32)⟩]
     concatenates_S8x8x64x4096_S8x8x16x4096_S8x8x80x4096_d2) bitsLt_bf16_f32 : FVec Ideal S8x8x80x4096 .bf16) := by
  rfl

theorem values_at (b h : Fin 8) (e : Fin 80) (j : Fin 4096) : V m c main_v18 (ix4 b h e j)
    = if he : e.val < 64 then (show EReal from m ((c.tc : Thread nD τ).loc main_arg2) (ix4 b j h ⟨e.val, he⟩)) else (1 : EReal) := by
  rw [values_eq]
  pointwise

/-- The batch and the head of a grid point. -/
def batch (t : Fin cfg0.N) : Fin 8 := ⟨t.val / 8, by have h : t.val < 64 := t.isLt; omega⟩
def head (t : Fin cfg0.N) : Fin 8 := ⟨t.val % 8, by omega⟩

theorem block0 (t : Fin cfg0.N) (d : Fin 128) (i : Fin 4096) :
    iblk m c 0 t (ix4 0 0 d i) = V m c main_v9 (ix4 (batch t) (head t) d i) := by
  blk_ext [iblk, batch, head, idx t]

theorem block1 (t : Fin cfg0.N) (j : Fin 4096) (d : Fin 128) :
    iblk m c 1 t (ix4 0 0 j d) = V m c main_v17 (ix4 (batch t) (head t) j d) := by
  blk_ext [iblk, batch, head, idx t]

theorem block2 (t : Fin cfg0.N) (e : Fin 80) (j : Fin 4096) :
    iblk m c 2 t (ix4 0 0 e j) = V m c main_v18 (ix4 (batch t) (head t) e j) := by
  blk_ext [iblk, batch, head, idx t]

end Cert.Proof.Attn

end
-- ==== Proof.Attn.Math.lean ====
/-
  Facts about the extended reals that the attention proof uses: a finite sum scaled by a positive real,
  a quotient whose two parts are scaled by the same positive real, and sums and maxima of real terms.
-/
module

public import Idealize.ShloMosaic.Lib.Pipeline.ValueKit

@[expose] public section

namespace Cert.Proof.Attn

open Idealize.ShloMosaic

/-- A positive real factor moves into a finite sum of extended reals. -/
theorem sum_mul_real {ι : Type*} (s : Finset ι) (f : ι → EReal) {κ : ℝ} (hκ : 0 < κ) :
    (∑ i ∈ s, f i) * (κ : EReal) = ∑ i ∈ s, f i * (κ : EReal) := by
  classical
  induction s using Finset.induction_on with
  | empty => simp
  | insert a s ha ih =>
    rw [Finset.sum_insert ha, Finset.sum_insert ha, ← ih]
    exact EReal.right_distrib_of_nonneg_of_ne_top (by exact_mod_cast hκ.le) (EReal.coe_ne_top κ) _ _

/-- A sum of products of reals is real. -/
theorem sum_coe_mul {ι : Type*} (s : Finset ι) (a b : ι → ℝ) :
    ∑ i ∈ s, (a i : EReal) * (b i : EReal) = ((∑ i ∈ s, a i * b i : ℝ) : EReal) := by
  classical
  induction s using Finset.induction_on with
  | empty => simp
  | insert c s hc ih => rw [Finset.sum_insert hc, Finset.sum_insert hc, ih]; push_cast; rfl

/-- A sum of reals is real. -/
theorem sum_coe {ι : Type*} (s : Finset ι) (a : ι → ℝ) :
    ∑ i ∈ s, (a i : EReal) = ((∑ i ∈ s, a i : ℝ) : EReal) := by
  classical
  induction s using Finset.induction_on with
  | empty => simp
  | insert c s hc ih => rw [Finset.sum_insert hc, Finset.sum_insert hc, ih]; push_cast; rfl

/-- Division by a nonzero real is multiplication by its inverse. -/
theorem div_real (A : EReal) {L : ℝ} (hL : L ≠ 0) : Ideal.div A (L : EReal) = A * ((L⁻¹ : ℝ) : EReal) := by
  unfold Ideal.div
  rw [if_neg (by exact_mod_cast hL), EReal.coe_inv]

/-- A quotient does not change when both its parts are scaled by the same positive real. -/
theorem div_scaled (A : EReal) {L κ : ℝ} (hL : 0 < L) (hκ : 0 < κ) :
    Ideal.div (A * (κ : EReal)) ((L : EReal) * (κ : EReal)) = Ideal.div A (L : EReal) := by
  rw [← EReal.coe_mul, div_real _ (mul_pos hL hκ).ne', div_real _ hL.ne', mul_assoc, ← EReal.coe_mul]
  congr 2
  field_simp

/-- Two to a real is a positive real. -/
theorem exp2_real (x : ℝ) : Ideal.exp2 (x : EReal) = (((2 : ℝ) ^ x : ℝ) : EReal) := rfl

/-- Two to a difference of reals. -/
theorem exp2_sub (x m : ℝ) : Ideal.exp2 ((x : EReal) - (m : EReal)) = (((2 : ℝ) ^ x * (2 : ℝ) ^ (-m) : ℝ) : EReal) := by
  rw [← EReal.coe_sub, exp2_real, sub_eq_add_neg, Real.rpow_add two_pos]

/-- A maximum taken over a nonempty finite family of reals, started at minus infinity, is real. -/
theorem fold_max_real {ι : Type*} [Fintype ι] [Nonempty ι] (f : ι → ℝ) :
    ∃ r : ℝ, Finset.fold max (⊥ : EReal) (fun i => (f i : EReal)) Finset.univ = (r : EReal) := by
  have h1 : Finset.fold max (⊥ : EReal) (fun i => (f i : EReal)) Finset.univ < ⊤ :=
    (Finset.fold_max_lt _).2 ⟨bot_lt_top, fun i _ => EReal.coe_lt_top _⟩
  have h2 : (⊥ : EReal) < Finset.fold max (⊥ : EReal) (fun i => (f i : EReal)) Finset.univ :=
    (Finset.lt_fold_max _).2 (Or.inr ⟨Classical.arbitrary ι, Finset.mem_univ _, EReal.bot_lt_coe _⟩)
  exact ⟨_, (EReal.coe_toReal h1.ne h2.ne').symm⟩

/-- A maximum taken over a nonempty finite family of nonnegative reals is a nonnegative real. -/
theorem fold_max_nonneg {ι : Type*} [Fintype ι] [Nonempty ι] (g : ι → EReal) (hg : ∀ i, 0 ≤ g i ∧ g i < ⊤) :
    0 ≤ Finset.fold max (⊥ : EReal) g Finset.univ ∧ Finset.fold max (⊥ : EReal) g Finset.univ < ⊤ :=
  ⟨(Finset.le_fold_max _).2 (Or.inr ⟨Classical.arbitrary ι, Finset.mem_univ _, (hg _).1⟩),
   (Finset.fold_max_lt _).2 ⟨bot_lt_top, fun i _ => (hg i).2⟩⟩

/-- The word of minus infinity. -/
theorem word_neg_inf : Ideal.ofBits .f32 4286578688#32 = ⊥ := by
  simp [Ideal.ofBits, Ideal.ieee]

/-- A maximum of reals along an axis that is not empty, at an index of the result, is real. -/
theorem axis_max_real {s t : Shape} {a : Fin s.rank} (src : FVec Ideal s .f32) (h : s.Reduces [a] t) (hφ : FKind.Formats .f32)
    (hacc : 4286578688#32 = FKind.maximumf.neutral .f32 hφ) (ha : 0 < s.size a) (j : t.Idx) (r : Fin (s.size a) → ℝ)
    (hs : ∀ i, src (h.lift j i) = (r i : EReal)) :
    ∃ M : ℝ, multiReduction (F := Ideal) .maximumf [a] t src 4286578688#32 h hφ hacc j = (M : EReal) := by
  haveI : Nonempty (Fin (s.size a)) := ⟨⟨0, ha⟩⟩
  obtain ⟨M, hM⟩ := fold_max_real r
  refine ⟨M, (Ideal.multiReduction_maximumf_single src _ h hφ hacc j).trans ?_⟩
  rw [← hM, ← word_neg_inf]
  exact Finset.fold_congr fun i _ => hs i

/-- The start of the running maximum is a real. -/
theorem word_start : ∃ r : ℝ, Ideal.ofBits .f32 4048155338#32 = (r : EReal) := by
  simp [Ideal.ofBits, Ideal.ieee]
  exact ⟨_, rfl⟩

/-- The margin of the shift is a real. -/
theorem word_margin : ∃ r : ℝ, Ideal.ofBits .f32 1065484288#32 = (r : EReal) := by
  simp [Ideal.ofBits, Ideal.ieee]
  exact ⟨_, rfl⟩

/-- The square root of the head width. -/
theorem sqrt_width : Ideal.sqrt (Ideal.ofBits .f32 1119879168#32) = ((Real.sqrt 96 : ℝ) : EReal) := by
  have e : Ideal.ofBits .f32 1119879168#32 = ((96 : ℝ) : EReal) := by
    simp [Ideal.ofBits, Ideal.ieee]
    rw [← EReal.coe_mul]
    norm_num
  rw [e, Ideal.sqrt_coe, if_neg (by norm_num)]

/-- The logarithm of two. -/
theorem log_two : Ideal.log (Ideal.ofBits .f32 1073741824#32) = ((Real.log 2 : ℝ) : EReal) := by
  have e : Ideal.ofBits .f32 1073741824#32 = ((2 : ℝ) : EReal) := by
    simp [Ideal.ofBits, Ideal.ieee]
    rw [← EReal.coe_mul]
    norm_num
  rw [e, Ideal.log_coe, if_neg (by norm_num)]

/-- A weighted mean with exponential weights, and the same mean by probabilities whose exponents are shifted by a real. -/
theorem softmax_quot {n : ℕ} [NeZero n] (v : Fin n → EReal) (x : Fin n → ℝ) (M : ℝ) :
    Ideal.div (∑ j, v j * ((Real.exp (x j) : ℝ) : EReal)) ((∑ j, Real.exp (x j) : ℝ) : EReal)
      = ∑ j, v j * Ideal.div (Ideal.exp ((x j : EReal) - (M : EReal))) (∑ i, Ideal.exp ((x i : EReal) - (M : EReal))) := by
  have hexp : ∀ j, Ideal.exp ((x j : EReal) - (M : EReal)) = ((Real.exp (x j - M) : ℝ) : EReal) := fun j => by
    rw [← EReal.coe_sub]; rfl
  have hL : 0 < ∑ j, Real.exp (x j) := Finset.sum_pos (fun _ _ => Real.exp_pos _) Finset.univ_nonempty
  have hZ : ∑ j, Real.exp (x j - M) = (∑ j, Real.exp (x j)) * Real.exp (-M) := by
    rw [Finset.sum_mul]
    exact Finset.sum_congr rfl fun j _ => by rw [sub_eq_add_neg, Real.exp_add]
  have hZ0 : (0 : ℝ) < ∑ j, Real.exp (x j - M) := Finset.sum_pos (fun _ _ => Real.exp_pos _) Finset.univ_nonempty
  simp only [hexp]
  rw [div_real _ hL.ne', sum_mul_real _ _ (inv_pos.2 hL), sum_coe]
  refine Finset.sum_congr rfl fun j _ => ?_
  rw [div_real _ hZ0.ne', mul_assoc, ← EReal.coe_mul, ← EReal.coe_mul]
  congr 2
  rw [hZ, sub_eq_add_neg, Real.exp_add]
  have := Real.exp_pos (-M)
  field_simp

/-- Position `r` of block `m` among the 4096 positions. -/
def pos (m : Fin 8) (r : Fin 512) : Fin 4096 := ⟨512 * m.val + r.val, by omega⟩

/-- A sum over the 4096 positions, block by block. -/
theorem sum_blocks (f : Fin 4096 → EReal) : ∑ j, f j = ∑ m : Fin 8, ∑ r : Fin 512, f (pos m r) := by
  rw [← Fintype.sum_prod_type' (fun m r => f (pos m r))]
  refine (Fintype.sum_equiv (finProdFinEquiv (m := 8) (n := 512)) _ _ fun x => ?_).symm
  congr 1
  apply Fin.ext
  simp [pos, finProdFinEquiv]
  omega

end Cert.Proof.Attn

end
-- ==== Proof.Attn.Blocks.lean ====
/-
  The blocks a grid point reads, when their queries and keys are real, and what softmax attention
  makes of them: the score `S j i` of key `j` and query `i`, its weight `2 ^ S j i`, and the weighted sum
  `A e i` of channel `e` of the values over all keys.  Channel 64 of the values is one throughout, so
  `A 64 i` is the sum of the weights.
-/
module

public import proofs.«01_k».proof.Proof.Attn.Tile
public import proofs.«01_k».proof.Proof.Attn.Math

@[expose] public section

set_option maxRecDepth 16384

noncomputable section

namespace Cert.Proof.Attn

open Cert.KernelIdeal Cert.KernelIdeal.Gen
open Idealize.ShloMosaic Idealize.ShloMosaic.TcCoe
open Idealize.ShloMosaic.View (ld)

/-- The blocks' queries and keys are the reals `Q` and `K`; lane 96 is zero in the queries and one in the
    keys; channel 64 of the values is one. -/
structure Blocks (x2 : FVec Ideal S1x1x128x4096 .bf16) (x3 : FVec Ideal S1x1x4096x128 .bf16) (x4 : FVec Ideal S1x1x80x4096 .bf16)
    (Q : Fin 128 → Fin 4096 → ℝ) (K : Fin 4096 → Fin 128 → ℝ) : Prop where
  q : ∀ d i, x2 (ix4 0 0 d i) = (Q d i : EReal)
  k : ∀ j d, x3 (ix4 0 0 j d) = (K j d : EReal)
  q96 : ∀ i, Q 96 i = 0
  k96 : ∀ j, K j 96 = 1
  v64 : ∀ j, x4 (ix4 0 0 64 j) = (1 : EReal)

section
variable (Q : Fin 128 → Fin 4096 → ℝ) (K : Fin 4096 → Fin 128 → ℝ) (x4 : FVec Ideal S1x1x80x4096 .bf16)

/-- The score of key `j` for query `i`. -/
def S (j i : Fin 4096) : ℝ := ∑ d, K j d * Q d i

/-- The part of the weighted sum that comes from the 512 keys of block `m`. -/
def B (m : Fin 8) (e : Fin 80) (i : Fin 4096) : EReal :=
  ∑ r : Fin 512, (x4 (ix4 0 0 e (pos m r)) : EReal) * (((2 : ℝ) ^ S Q K (pos m r) i : ℝ) : EReal)

/-- The weighted sum of channel `e` of the values. -/
def A (e : Fin 80) (i : Fin 4096) : EReal :=
  ∑ j : Fin 4096, (x4 (ix4 0 0 e j) : EReal) * (((2 : ℝ) ^ S Q K j i : ℝ) : EReal)

/-- The sum of the weights. -/
def L (i : Fin 4096) : ℝ := ∑ j : Fin 4096, (2 : ℝ) ^ S Q K j i

theorem L_pos (i : Fin 4096) : 0 < L Q K i :=
  Finset.sum_pos (fun _ _ => Real.rpow_pos_of_pos two_pos _) Finset.univ_nonempty

theorem A_blocks (e : Fin 80) (i : Fin 4096) : A Q K x4 e i = ∑ m : Fin 8, B Q K x4 m e i := sum_blocks _

end

section
variable {x2 : FVec Ideal S1x1x128x4096 .bf16} {x3 : FVec Ideal S1x1x4096x128 .bf16} {x4 : FVec Ideal S1x1x80x4096 .bf16}
  {Q : Fin 128 → Fin 4096 → ℝ} {K : Fin 4096 → Fin 128 → ℝ}

theorem A_ones (h : Blocks x2 x3 x4 Q K) (i : Fin 4096) : A Q K x4 64 i = (L Q K i : EReal) := by
  unfold A L
  rw [← sum_coe]
  refine Finset.sum_congr rfl fun j _ => ?_
  rw [h.v64 j]; exact one_mul _

/-- The quotient of the two weighted sums does not change when both are scaled. -/
theorem quot_scaled (h : Blocks x2 x3 x4 Q K) (e : Fin 80) (i : Fin 4096) {κ : ℝ} (hκ : 0 < κ) :
    Ideal.div (A Q K x4 e i * (κ : EReal)) (A Q K x4 64 i * (κ : EReal)) = Ideal.div (A Q K x4 e i) (L Q K i : EReal) := by
  rw [A_ones h, div_scaled _ (L_pos Q K i) hκ]

/-! ## What a load of a part of a block reads -/

/-- Column `c` of query tile `k` among the 4096 queries. -/
def col (k : Fin k0_t1_loop.trips) (c : Fin 1024) : Fin 4096 :=
  ⟨1024 * k.val + c.val, by have : k0_t1_loop.trips = 4 := by decide +kernel
                            have := k.isLt; omega⟩

theorem qPart_at {off : Fin 4 → ℕ} {hb} (k : Fin k0_t1_loop.trips) (e : off = ![0, 0, 0, 1024 * k.val]) (d : Fin 128) (c : Fin 1024) :
    (show Vec Ideal S1x1x128x1024 .bf16 from ld (Val := Elt Ideal) (e' := EltTy.bf16) x2 (Rect.unit (s := S1x1x128x4096) off S1x1x128x1024.size hb)) (ix4 0 0 d c) = x2 (ix4 0 0 d (col k c)) := by
  subst e
  refine congrArg x2 (funext fun a => Fin.ext ?_)
  fin_cases a
  · rfl
  · rfl
  · show 0 + 1 * d.val = d.val; omega
  · show 1024 * k.val + 1 * c.val = 1024 * k.val + c.val; omega

theorem qTile_at (k : Fin k0_t1_loop.trips) (d : Fin 128) (c : Fin 1024) :
    qTile (F := Ideal) x2 k (ix4 0 0 d c) = x2 (ix4 0 0 d (col k c)) := qPart_at k (k0_off2_eq k) d c

theorem qTile'_at (k : Fin k0_t1_loop.trips) (d : Fin 128) (c : Fin 1024) :
    qTile' (F := Ideal) x2 k (ix4 0 0 d c) = x2 (ix4 0 0 d (col k c)) := qPart_at k (k0_off4_eq k) d c

theorem kAt_at {off : Fin 4 → ℕ} {hb} (m : Fin 8) (e : off = ![0, 0, 512 * m.val, 0]) (r : Fin 512) (d : Fin 128) :
    kAt (F := Ideal) x3 off hb (ix4 0 0 r d) = x3 (ix4 0 0 (pos m r) d) := by
  subst e
  refine congrArg x3 (funext fun a => Fin.ext ?_)
  fin_cases a
  · rfl
  · rfl
  · show 512 * m.val + 1 * r.val = 512 * m.val + r.val; omega
  · show 0 + 1 * d.val = d.val; omega

theorem vAt_at {off : Fin 4 → ℕ} {hb} (m : Fin 8) (e : off = ![0, 0, 0, 512 * m.val]) (u : Fin 80) (r : Fin 512) :
    vAt (F := Ideal) x4 off hb (ix4 0 0 u r) = x4 (ix4 0 0 u (pos m r)) := by
  subst e
  refine congrArg x4 (funext fun a => Fin.ext ?_)
  fin_cases a
  · rfl
  · rfl
  · show 0 + 1 * u.val = u.val; omega
  · show 512 * m.val + 1 * r.val = 512 * m.val + r.val; omega

end

end Cert.Proof.Attn

end
-- ==== Proof.Attn.Fast.lean ====
/-
  The pass with the fixed shift: every weight carries the same factor `2 ^ (-β)`, where `β` is the bound
  the kernel puts into lane 96 of the queries, and the factor cancels in the final quotient.
-/
module

public import proofs.«01_k».proof.Proof.Attn.Blocks

@[expose] public section

set_option maxRecDepth 16384

noncomputable section

namespace Cert.Proof.Attn

open Cert.KernelIdeal Cert.KernelIdeal.Gen
open Idealize.ShloMosaic Idealize.ShloMosaic.TcCoe

variable {x2 : FVec Ideal S1x1x128x4096 .bf16} {x3 : FVec Ideal S1x1x4096x128 .bf16} {x4 : FVec Ideal S1x1x80x4096 .bf16}
  {Q : Fin 128 → Fin 4096 → ℝ} {K : Fin 4096 → Fin 128 → ℝ}

/-! ## The largest squared norm of a key is a nonnegative real -/

theorem square_sum_nonneg (h : Blocks x2 x3 x4 Q K) {off hb} (m : Fin 8) (e : off = ![0, 0, 512 * m.val, 0]) (r : Fin 512)
    (w : Fin 128 → EReal) (hw : ∀ d, w d = 1) :
    0 ≤ ∑ d, w d * ((kAt (F := Ideal) x3 off hb (ix4 0 0 r d) : EReal) * kAt (F := Ideal) x3 off hb (ix4 0 0 r d))
    ∧ ∑ d, w d * ((kAt (F := Ideal) x3 off hb (ix4 0 0 r d) : EReal) * kAt (F := Ideal) x3 off hb (ix4 0 0 r d)) < ⊤ := by
  have : ∑ d, w d * ((kAt (F := Ideal) x3 off hb (ix4 0 0 r d) : EReal) * kAt (F := Ideal) x3 off hb (ix4 0 0 r d))
      = ((∑ d, K (pos m r) d * K (pos m r) d : ℝ) : EReal) := by
    rw [← sum_coe_mul]
    refine Finset.sum_congr rfl fun d _ => ?_
    rw [hw, kAt_at m e, h.k, one_mul]
  rw [this]
  exact ⟨by exact_mod_cast Finset.sum_nonneg fun d _ => mul_self_nonneg _, EReal.coe_lt_top _⟩

theorem max_bounds {a b : EReal} (ha : 0 ≤ a ∧ a < ⊤) (hb : 0 ≤ b ∧ b < ⊤) : 0 ≤ max a b ∧ max a b < ⊤ :=
  ⟨le_max_of_le_left ha.1, max_lt ha.2 hb.2⟩

theorem ones_at (y : S16x128.Idx) : k0_pay20 (F := Ideal) y = (1 : EReal) := by
  pointwise [k0_pay20]

theorem norms3 (h : Blocks x2 x3 x4 Q K) (y : S16x512.Idx) :
    0 ≤ (k0_pay21 (F := Ideal) (kAt x3 (k0_off1 0#32) (k0_off1_inb 0)) (kAt x3 (k0_off1 1#32) (k0_off1_inb 1)) (kAt x3 (k0_off1 2#32) (k0_off1_inb 2)) y : EReal)
    ∧ (k0_pay21 (F := Ideal) (kAt x3 (k0_off1 0#32) (k0_off1_inb 0)) (kAt x3 (k0_off1 1#32) (k0_off1_inb 1)) (kAt x3 (k0_off1 2#32) (k0_off1_inb 2)) y : EReal) < ⊤ := by
  pointwise [k0_pay21]
  exact max_bounds (max_bounds (max_bounds ⟨le_rfl, EReal.zero_lt_top⟩
    (square_sum_nonneg h 0 (k0_off1_eq 0) _ _ fun _ => ones_at _))
    (square_sum_nonneg h 1 (k0_off1_eq 1) _ _ fun _ => ones_at _))
    (square_sum_nonneg h 2 (k0_off1_eq 2) _ _ fun _ => ones_at _)

theorem norms6 (h : Blocks x2 x3 x4 Q K) (w : FVec Ideal S16x512 .f32) (hw : ∀ y, 0 ≤ (w y : EReal) ∧ (w y : EReal) < ⊤) (y : S16x512.Idx) :
    0 ≤ (k0_pay22 (F := Ideal) k0_pay20 w (kAt x3 (k0_off1 3#32) (k0_off1_inb 3)) (kAt x3 (k0_off1 4#32) (k0_off1_inb 4)) (kAt x3 (k0_off1 5#32) (k0_off1_inb 5)) y : EReal)
    ∧ (k0_pay22 (F := Ideal) k0_pay20 w (kAt x3 (k0_off1 3#32) (k0_off1_inb 3)) (kAt x3 (k0_off1 4#32) (k0_off1_inb 4)) (kAt x3 (k0_off1 5#32) (k0_off1_inb 5)) y : EReal) < ⊤ := by
  pointwise [k0_pay22]
  exact max_bounds (max_bounds (max_bounds (hw y)
    (square_sum_nonneg h 3 (k0_off1_eq 3) _ _ fun _ => ones_at _))
    (square_sum_nonneg h 4 (k0_off1_eq 4) _ _ fun _ => ones_at _))
    (square_sum_nonneg h 5 (k0_off1_eq 5) _ _ fun _ => ones_at _)

theorem keyMax_real (h : Blocks x2 x3 x4 Q K) : ∃ r : ℝ, 0 ≤ r ∧ keyMax (F := Ideal) x3 = (r : EReal) := by
  have key : 0 ≤ (keyMax (F := Ideal) x3 : EReal) ∧ (keyMax (F := Ideal) x3 : EReal) < ⊤ := by
    unfold keyMax
    have hw := norms6 h _ (norms3 h)
    revert hw
    generalize k0_pay22 (F := Ideal) _ _ _ _ _ = w
    intro hw
    pointwise [k0_pay1]
    rw [word_neg_inf]
    exact fold_max_nonneg _ fun x => max_bounds (max_bounds (hw _)
      (square_sum_nonneg h 6 (k0_off1_eq 6) _ _ fun _ => ones_at _))
      (square_sum_nonneg h 7 (k0_off1_eq 7) _ _ fun _ => ones_at _)
  obtain ⟨h0, h1⟩ := key
  refine ⟨(keyMax (F := Ideal) x3 : EReal).toReal, EReal.toReal_nonneg h0, ?_⟩
  exact (EReal.coe_toReal h1.ne (ne_of_gt (lt_of_lt_of_le EReal.bot_lt_zero h0))).symm

/-! ## The shifted queries -/

theorem lane_word : ∀ d : Fin 128, IntOp.cmpi .eq (BitVec.ofNat 32 d.val) 96#32 = if d = 96 then 1#1 else 0#1 := by decide +kernel

/-- Lane 96 of the shifted queries carries a real, the other lanes the query. -/
theorem qShift_at (h : Blocks x2 x3 x4 Q K) (k : Fin k0_t1_loop.trips) (c : Fin 1024) :
    ∃ β : ℝ, ∀ d, qShift (F := Ideal) (keyMax x3) x2 k (ix2 d c) = ((Q d (col k c) - if d = 96 then β else 0 : ℝ) : EReal) := by
  obtain ⟨r, hr, er⟩ := keyMax_real h
  obtain ⟨μ, eμ⟩ := word_margin
  refine ⟨Real.sqrt ((∑ d, Q d (col k c) * Q d (col k c)) * r) * μ, fun d => ?_⟩
  have e2 : ∑ x, (qTile (F := Ideal) x2 k (ix4 0 0 x c) : EReal) * qTile (F := Ideal) x2 k (ix4 0 0 x c)
      = ((∑ d, Q d (col k c) * Q d (col k c) : ℝ) : EReal) := by
    rw [← sum_coe_mul]
    exact Finset.sum_congr rfl fun x _ => by rw [qTile_at, h.q]
  unfold qShift
  rw [er]
  pointwise [k0_pay9, lane]
  rw [e2, eμ, qTile_at, h.q, ← EReal.coe_mul, Ideal.sqrt_coe,
    if_neg (not_lt.2 (mul_nonneg (Finset.sum_nonneg fun _ _ => mul_self_nonneg _) hr))]
  change Scalar.select (IntOp.cmpi .eq (BitVec.ofNat 32 d.val) 96#32) _ _ = _
  rw [lane_word d]
  by_cases hd : d = 96
  · subst hd
    rw [if_pos rfl, if_pos rfl, h.q96]
    refine (show Scalar.select 1#1 _ _ = _ from rfl).trans ?_
    rw [zero_sub, zero_sub, ← EReal.coe_mul, EReal.coe_neg]
    rfl
  · rw [if_neg hd, if_neg hd, sub_zero]
    rfl

/-! ## The pass -/

variable {qa : FVec Ideal S128x1024 .bf16} {k : Fin k0_t1_loop.trips} {c : Fin 1024} {β : ℝ}

/-- The weight of a key in the shifted pass. -/
theorem weight_fast (h : Blocks x2 x3 x4 Q K)
    (hq : ∀ d, qa (ix2 d c) = ((Q d (col k c) - if d = 96 then β else 0 : ℝ) : EReal))
    {off hb} (m : Fin 8) (e : off = ![0, 0, 512 * m.val, 0]) (r : Fin 512) :
    Ideal.exp2 (∑ d, (kAt (F := Ideal) x3 off hb (ix4 0 0 r d) : EReal) * qa (ix2 d c))
      = (((2 : ℝ) ^ S Q K (pos m r) (col k c) : ℝ) : EReal) * (((2 : ℝ) ^ (-β) : ℝ) : EReal) := by
  have : ∑ d, (kAt (F := Ideal) x3 off hb (ix4 0 0 r d) : EReal) * qa (ix2 d c)
      = ((S Q K (pos m r) (col k c) - β : ℝ) : EReal) := by
    have e1 : S Q K (pos m r) (col k c) - β = ∑ d, K (pos m r) d * (Q d (col k c) - if d = 96 then β else 0) := by
      simp only [S, mul_sub, Finset.sum_sub_distrib, mul_ite, mul_zero, Finset.sum_ite_eq', Finset.mem_univ, if_true, h.k96, one_mul]
    rw [e1, ← sum_coe_mul]
    exact Finset.sum_congr rfl fun d _ => by rw [kAt_at m e, h.k, hq]
  rw [this, exp2_real, sub_eq_add_neg, Real.rpow_add two_pos, EReal.coe_mul]

/-- What one block of keys adds in the shifted pass. -/
theorem part_fast (h : Blocks x2 x3 x4 Q K)
    (hq : ∀ d, qa (ix2 d c) = ((Q d (col k c) - if d = 96 then β else 0 : ℝ) : EReal))
    {off hb} (m : Fin 8) (e : off = ![0, 0, 512 * m.val, 0]) {off' hb'} (e' : off' = ![0, 0, 0, 512 * m.val]) (u : Fin 80) :
    ∑ r, (vAt (F := Ideal) x4 off' hb' (ix4 0 0 u r) : EReal) * Ideal.exp2 (∑ d, (kAt (F := Ideal) x3 off hb (ix4 0 0 r d) : EReal) * qa (ix2 d c))
      = B Q K x4 m u (col k c) * (((2 : ℝ) ^ (-β) : ℝ) : EReal) := by
  unfold B
  rw [sum_mul_real _ _ (Real.rpow_pos_of_pos two_pos _)]
  refine Finset.sum_congr rfl fun r _ => ?_
  rw [weight_fast h hq m e, vAt_at m e', mul_assoc]

theorem fastA_at (h : Blocks x2 x3 x4 Q K)
    (hq : ∀ d, qa (ix2 d c) = ((Q d (col k c) - if d = 96 then β else 0 : ℝ) : EReal)) (u : Fin 80) :
    fastA (F := Ideal) qa x3 x4 (ix2 u c)
      = B Q K x4 0 u (col k c) * (((2 : ℝ) ^ (-β) : ℝ) : EReal) + B Q K x4 1 u (col k c) * (((2 : ℝ) ^ (-β) : ℝ) : EReal)
        + B Q K x4 2 u (col k c) * (((2 : ℝ) ^ (-β) : ℝ) : EReal) := by
  pointwise [fastA, k0_pay13, k0_pay10, k0_pay11]
  exact congrArg₂ (· + ·) (congrArg₂ (· + ·) (part_fast h hq 0 rfl rfl u) (part_fast h hq 1 rfl rfl u)) (part_fast h hq 2 rfl rfl u)

theorem fastB_at (h : Blocks x2 x3 x4 Q K)
    (hq : ∀ d, qa (ix2 d c) = ((Q d (col k c) - if d = 96 then β else 0 : ℝ) : EReal)) (u : Fin 80) :
    fastB (F := Ideal) qa x3 x4 (ix2 u c)
      = fastA (F := Ideal) qa x3 x4 (ix2 u c)
        + B Q K x4 3 u (col k c) * (((2 : ℝ) ^ (-β) : ℝ) : EReal) + B Q K x4 4 u (col k c) * (((2 : ℝ) ^ (-β) : ℝ) : EReal)
        + B Q K x4 5 u (col k c) * (((2 : ℝ) ^ (-β) : ℝ) : EReal) := by
  pointwise [fastB, k0_pay16, k0_pay12, k0_pay14]
  exact congrArg₂ (· + ·) (congrArg₂ (· + ·) (congrArg₂ (· + ·) rfl (part_fast h hq 3 rfl rfl u)) (part_fast h hq 4 rfl rfl u))
    (part_fast h hq 5 rfl rfl u)

/-- The sum of all parts of the shifted pass. -/
theorem fast_total (h : Blocks x2 x3 x4 Q K)
    (hq : ∀ d, qa (ix2 d c) = ((Q d (col k c) - if d = 96 then β else 0 : ℝ) : EReal)) (u : Fin 80) :
    (fastB (F := Ideal) qa x3 x4 (ix2 u c) : EReal)
        + B Q K x4 6 u (col k c) * (((2 : ℝ) ^ (-β) : ℝ) : EReal) + B Q K x4 7 u (col k c) * (((2 : ℝ) ^ (-β) : ℝ) : EReal)
      = A Q K x4 u (col k c) * (((2 : ℝ) ^ (-β) : ℝ) : EReal) := by
  rw [A_blocks, sum_mul_real _ _ (Real.rpow_pos_of_pos two_pos _), Fin.sum_univ_eight, fastB_at h hq, fastA_at h hq]

/-- The tile the shifted pass writes. -/
theorem fast_at (h : Blocks x2 x3 x4 Q K) (k : Fin k0_t1_loop.trips) (u : Fin 64) (c : Fin 1024) :
    fastTile (F := Ideal) (qShift (keyMax x3) x2 k) x3 x4 (ix3 0 u c)
      = Ideal.div (A Q K x4 ⟨u.val, by omega⟩ (col k c)) (L Q K (col k c) : EReal) := by
  obtain ⟨β, hq⟩ := qShift_at h k c
  rw [← quot_scaled h _ _ (Real.rpow_pos_of_pos two_pos (-β)), ← fast_total h hq, ← fast_total h hq]
  pointwise [fastTile, k0_pay18, k0_pay17, k0_pay15]
  exact congrArg₂ Ideal.div
    (congrArg₂ (· + ·) (congrArg₂ (· + ·) rfl (part_fast h hq 6 rfl rfl _)) (part_fast h hq 7 rfl rfl _))
    (congrArg₂ (· + ·) (congrArg₂ (· + ·) rfl (part_fast h hq 6 rfl rfl _)) (part_fast h hq 7 rfl rfl _))

end Cert.Proof.Attn

end
-- ==== Proof.Attn.Slow.lean ====
/-
  The pass with the running maximum: after `n` blocks of keys the accumulator holds the weighted sums over
  these blocks times `2 ^ (-M)`, where `M` is the running maximum; the factor cancels in the final quotient.
-/
module

public import proofs.«01_k».proof.Proof.Attn.Blocks

@[expose] public section

set_option maxRecDepth 16384

noncomputable section

namespace Cert.Proof.Attn

open Cert.KernelIdeal Cert.KernelIdeal.Gen
open Idealize.ShloMosaic Idealize.ShloMosaic.TcCoe

variable {x2 : FVec Ideal S1x1x128x4096 .bf16} {x3 : FVec Ideal S1x1x4096x128 .bf16} {x4 : FVec Ideal S1x1x80x4096 .bf16}
  {Q : Fin 128 → Fin 4096 → ℝ} {K : Fin 4096 → Fin 128 → ℝ}
  {q : FVec Ideal S1x1x128x1024 .bf16} {kb : FVec Ideal S1x1x512x128 .bf16} {vb : FVec Ideal S1x1x80x512 .bf16}
  {i : Fin 4096} {c : Fin 1024} {m : Fin 8}

/-- One block's scores. -/
theorem score_at (hq : ∀ d, q (ix4 0 0 d c) = (Q d i : EReal)) (hk : ∀ r d, kb (ix4 0 0 r d) = (K (pos m r) d : EReal)) (r : Fin 512) :
    k0_pay4 (F := Ideal) q kb (ix2 r c) = (S Q K (pos m r) i : EReal) := by
  unfold S
  rw [← sum_coe_mul]
  pointwise [k0_pay4]
  exact Finset.sum_congr rfl fun d _ => congrArg₂ (· * ·) (hk r d) (hq d)

theorem max_cast_at (mx : FVec Ideal S1x1024 .f32) (z : FVec Ideal S1024 .f32) :
    maximumf mx (shapeCast S1x1024 z shapeCasts_S1024_S1x1024) (ix2 0 c) = max (mx (ix2 0 c)) (z (ix1 c)) := by
  pointwise

/-- The running maximum is stored as it is. -/
theorem max_stored (mx : FVec Ideal S1x1024 .f32) :
    k0_pay7 (F := Ideal) q kb mx (ix2 0 c) = k0_pay5 (F := Ideal) q kb mx (ix2 0 c) := by
  pointwise [k0_pay7]

/-- The running maximum stays real. -/
theorem max_step (hq : ∀ d, q (ix4 0 0 d c) = (Q d i : EReal)) (hk : ∀ r d, kb (ix4 0 0 r d) = (K (pos m r) d : EReal))
    {mx : FVec Ideal S1x1024 .f32} {M : ℝ} (hM : mx (ix2 0 c) = (M : EReal)) :
    ∃ M' : ℝ, k0_pay5 (F := Ideal) q kb mx (ix2 0 c) = (M' : EReal) ∧ k0_pay7 (F := Ideal) q kb mx (ix2 0 c) = (M' : EReal) := by
  have hz : ∀ z : S1024.Idx, z = ix1 c → ∃ R : ℝ, multiReduction (F := Ideal) .maximumf [0] S1024 (k0_pay4 (F := Ideal) q kb) 0xFF800000#32
      reduces_S512x1024_S1024 (.inl rfl) rfl z = (R : EReal) := fun z ez => by
    subst ez
    refine axis_max_real _ _ _ _ (by decide) _ (fun r => S Q K (pos m r) i) fun r => ?_
    refine Eq.trans (congrArg _ ?_) (score_at hq hk r)
    funext a; fin_cases a <;> rfl
  obtain ⟨R, hR⟩ := hz _ rfl
  have e5 : k0_pay5 (F := Ideal) q kb mx (ix2 0 c) = ((max M R : ℝ) : EReal) := by
    refine (max_cast_at mx _).trans ?_
    rw [hM, hR]
    exact (EReal.coe_strictMono.monotone.map_max).symm
  exact ⟨max M R, e5, (max_stored mx).trans e5⟩

/-- The accumulator takes in one block. -/
theorem acc_step (hq : ∀ d, q (ix4 0 0 d c) = (Q d i : EReal)) (hk : ∀ r d, kb (ix4 0 0 r d) = (K (pos m r) d : EReal))
    (hv : ∀ u r, vb (ix4 0 0 u r) = x4 (ix4 0 0 u (pos m r)))
    {mx : FVec Ideal S1x1024 .f32} {M M' : ℝ} (hM : mx (ix2 0 c) = (M : EReal)) (hM' : k0_pay5 (F := Ideal) q kb mx (ix2 0 c) = (M' : EReal))
    {acc : FVec Ideal S80x1024 .f32} {u : Fin 80} {T : EReal} (ha : acc (ix2 u c) = T * (((2 : ℝ) ^ (-M) : ℝ) : EReal)) :
    k0_pay6 (F := Ideal) q kb vb mx acc (ix2 u c) = (T + B Q K x4 m u i) * (((2 : ℝ) ^ (-M') : ℝ) : EReal) := by
  have hp : (0 : ℝ) < (2 : ℝ) ^ (-M') := Real.rpow_pos_of_pos two_pos _
  rw [EReal.right_distrib_of_nonneg_of_ne_top (by exact_mod_cast hp.le) (EReal.coe_ne_top _)]
  pointwise [k0_pay6]
  refine congrArg₂ (· + ·) ?_ ?_
  · change acc (ix2 u c) * Ideal.exp2 ((mx (ix2 0 c) : EReal) - (k0_pay5 (F := Ideal) q kb mx (ix2 0 c) : EReal)) = _
    rw [ha, hM, hM', exp2_sub, mul_assoc, ← EReal.coe_mul, ← mul_assoc, ← Real.rpow_add two_pos, neg_add_cancel, Real.rpow_zero, one_mul]
  · unfold B
    rw [sum_mul_real _ _ hp]
    refine Finset.sum_congr rfl fun r _ => ?_
    change (vb (ix4 0 0 u r) : EReal) * Ideal.exp2 ((k0_pay4 (F := Ideal) q kb (ix2 r c) : EReal) - (k0_pay5 (F := Ideal) q kb mx (ix2 0 c) : EReal)) = _
    rw [hv, score_at hq hk, hM', exp2_sub, EReal.coe_mul, mul_assoc]

theorem trips2 : k0_t2_loop.trips = 8 := by decide +kernel

/-- The state before block `n`. -/
theorem slow_inv (h : Blocks x2 x3 x4 Q K) (hq : ∀ d, q (ix4 0 0 d c) = (Q d i : EReal)) : ∀ n : ℕ, n ≤ 8 →
    ∃ M : ℝ, (slowSt (F := Ideal) q x3 x4 n).1 (ix2 0 c) = (M : EReal) ∧
      ∀ u, (slowSt (F := Ideal) q x3 x4 n).2 (ix2 u c)
        = (∑ b ∈ Finset.univ.filter (fun b : Fin 8 => b.val < n), B Q K x4 b u i) * (((2 : ℝ) ^ (-M) : ℝ) : EReal)
  | 0, _ => by
    obtain ⟨M, hM⟩ := word_start
    refine ⟨M, ?_, fun u => ?_⟩
    · refine Eq.trans ?_ hM
      change k0_pay2 (F := Ideal) (ix2 0 c) = _
      pointwise [k0_pay2]
    · simp only [Nat.not_lt_zero, Finset.filter_false, Finset.sum_empty, zero_mul]
      change k0_pay3 (F := Ideal) (ix2 u c) = (0 : EReal)
      pointwise [k0_pay3]
  | n + 1, hn => by
    obtain ⟨M, hM, ha⟩ := slow_inv h hq n (by omega)
    have hn' : n < k0_t2_loop.trips := by rw [trips2]; omega
    have e := slowSt_succ (F := Ideal) q x3 x4 ⟨n, hn'⟩
    dsimp only at e
    have hk : ∀ r d, kAt (F := Ideal) x3 (k0_off5 ⟨n, hn'⟩) (k0_off5_inb ⟨n, hn'⟩) (ix4 0 0 r d) = (K (pos ⟨n, by omega⟩ r) d : EReal) :=
      fun r d => (kAt_at (⟨n, by omega⟩ : Fin 8) (k0_off5_eq ⟨n, hn'⟩) r d).trans (h.k _ _)
    have hv : ∀ u r, vAt (F := Ideal) x4 (k0_off6 ⟨n, hn'⟩) (k0_off6_inb ⟨n, hn'⟩) (ix4 0 0 u r) = x4 (ix4 0 0 u (pos ⟨n, by omega⟩ r)) :=
      fun u r => vAt_at (⟨n, by omega⟩ : Fin 8) (k0_off6_eq ⟨n, hn'⟩) u r
    obtain ⟨M', h5, h7⟩ := max_step hq hk hM
    refine ⟨M', by rw [e]; exact h7, fun u => ?_⟩
    rw [e]
    refine (acc_step hq hk hv hM h5 (ha u)).trans ?_
    congr 1
    have e2 : Finset.univ.filter (fun b : Fin 8 => b.val < n + 1) = insert ⟨n, by omega⟩ (Finset.univ.filter (fun b : Fin 8 => b.val < n)) := by
      ext b
      simp only [Finset.mem_filter, Finset.mem_univ, true_and, Finset.mem_insert, Fin.ext_iff]
      omega
    rw [e2, Finset.sum_insert (by simp), add_comm]

/-- The tile the running-maximum pass writes. -/
theorem slow_at (h : Blocks x2 x3 x4 Q K) (k : Fin k0_t1_loop.trips) (u : Fin 64) (c : Fin 1024) :
    slowTile (F := Ideal) (qTile' x2 k) x3 x4 (ix3 0 u c)
      = Ideal.div (A Q K x4 ⟨u.val, by omega⟩ (col k c)) (L Q K (col k c) : EReal) := by
  obtain ⟨M, -, ha⟩ := slow_inv (q := qTile' (F := Ideal) x2 k) (c := c) (i := col k c) h (fun d => (qTile'_at k d c).trans (h.q _ _)) 8 le_rfl
  have e : Finset.univ.filter (fun b : Fin 8 => b.val < 8) = Finset.univ := by
    ext b; simp
  rw [e] at ha
  rw [← quot_scaled h _ _ (Real.rpow_pos_of_pos two_pos (-M)), A_blocks, A_blocks, ← ha, ← ha]
  unfold slowTile
  rw [trips2]
  pointwise [k0_pay8]

end Cert.Proof.Attn

end
-- ==== Proof.Attn.Out.lean ====
/-
  The output block of a grid point, at an index: whichever of the two passes a query tile keeps, the value
  is the same quotient of weighted sums.
-/
module

public import proofs.«01_k».proof.Proof.Attn.Fast
public import proofs.«01_k».proof.Proof.Attn.Slow
public import proofs.«01_k».proof.Proof.Attn.Body

@[expose] public section

set_option maxRecDepth 16384

noncomputable section

namespace Cert.Proof.Attn

open Cert.KernelIdeal Cert.KernelIdeal.Gen
open Idealize.ShloMosaic Idealize.ShloMosaic.TcCoe

section
variable {F : FTy → Type} [FloatOps F] (km : F .f32) (x2 : Vec F S1x1x128x4096 .bf16) (x3 : Vec F S1x1x4096x128 .bf16) (x4 : Vec F S1x1x80x4096 .bf16)

/-- A piece the loop wrote was written by one of its trips. -/
theorem of_mem_pieces {p : View.Piece (Elt F) S1x64x4096 .bf16} : ∀ n : ℕ, p ∈ pieces km x2 x3 x4 n → ∃ k, p ∈ tripPieces km x2 x3 x4 k
  | 0, h => absurd h (by rw [pieces]; exact List.not_mem_nil)
  | n + 1, h => by
    rw [pieces] at h
    split at h
    · rcases List.mem_append.1 h with h | h
      · exact ⟨_, h⟩
      · exact of_mem_pieces n h
    · exact of_mem_pieces n h
end

variable {x2 : FVec Ideal S1x1x128x4096 .bf16} {x3 : FVec Ideal S1x1x4096x128 .bf16} {x4 : FVec Ideal S1x1x80x4096 .bf16}
  {Q : Fin 128 → Fin 4096 → ℝ} {K : Fin 4096 → Fin 128 → ℝ}

/-- The quotient of weighted sums at an index of the output block. -/
def quot (Q : Fin 128 → Fin 4096 → ℝ) (K : Fin 4096 → Fin 128 → ℝ) (x4 : FVec Ideal S1x1x80x4096 .bf16) (u : Fin 64) (i : Fin 4096) : EReal :=
  Ideal.div (A Q K x4 ⟨u.val, by omega⟩ i) (L Q K i : EReal)

/-- A tile agrees with the quotient where it is written. -/
theorem piece_at (k : Fin k0_t1_loop.trips) {off : Fin 3 → ℕ} {hb} (e : off = ![0, 0, 1024 * k.val]) (w : FVec Ideal S1x64x1024 .bf16)
    (hw : ∀ u c, w (ix3 0 u c) = quot Q K x4 u (col k c)) (x : S1x64x1024.Idx) :
    w x = quot Q K x4 ((Rect.unit (s := S1x64x4096) off S1x64x1024.size hb).emb x 1) ((Rect.unit (s := S1x64x4096) off S1x64x1024.size hb).emb x 2) := by
  subst e
  have hx : x = ix3 0 (x 1) (x 2) := by
    funext a
    fin_cases a
    · exact Subsingleton.elim (α := Fin 1) _ _
    · rfl
    · rfl
  rw [hx]
  refine (hw (x 1) (x 2)).trans ?_
  congr 1
  · apply Fin.ext
    show (x 1).val = 0 + 1 * (x 1).val; omega
  · apply Fin.ext
    show 1024 * k.val + (x 2).val = 1024 * k.val + 1 * (x 2).val; omega

/-- The output block at an index. -/
theorem out_at (h : Blocks x2 x3 x4 Q K) (y : S1x64x4096.Idx) :
    outBlk (F := Ideal) x2 x3 x4 y = quot Q K x4 (y 1) (y 2) := by
  refine View.canon_apply_of_pieces (Val := Elt Ideal) (fun y : S1x64x4096.Idx => quot Q K x4 (y 1) (y 2)) _ ?_ y (cover _ _ _ _ y)
  intro p hp
  obtain ⟨k, hk⟩ := of_mem_pieces _ _ _ _ _ hp
  unfold tripPieces at hk
  split at hk
  · rcases List.mem_cons.1 hk with rfl | hk
    · exact piece_at (hb := k0_off7_inb k) k (k0_off7_eq k) _ fun u c => slow_at h k u c
    · obtain rfl := List.mem_singleton.1 hk
      exact piece_at (hb := k0_off3_inb k) k (k0_off3_eq k) _ fun u c => fast_at h k u c
  · obtain rfl := List.mem_singleton.1 hk
    exact piece_at (hb := k0_off3_inb k) k (k0_off3_eq k) _ fun u c => fast_at h k u c

end Cert.Proof.Attn

end
-- ==== Proof.Attn.RefTerm.lean ====
/-
  The reference's result, in named steps: scores, their row maxima, the exponentials, the row sums, the
  probabilities, and the weighted sums of the values.
-/
module

public import proofs.«01_k».proof.Proof.Gen.ReferenceIdeal
public import proofs.«01_k».proof.Proof.Attn.Math

@[expose] public section

set_option maxRecDepth 16384

noncomputable section

namespace Cert.Proof.AttnRef

open Cert.ReferenceIdeal Cert.ReferenceIdeal.Gen
open Idealize.ShloMosaic Idealize.ShloMosaic.TcCoe

variable (q k : FVec Ideal S8x4096x8x96 .f32) (v : FVec Ideal S8x4096x8x64 .f32)

def scores : FVec Ideal S8x8x4096x4096 .f32 :=
  Host.divf (Host.dotGeneral dot_S8x4096x8x96_S8x4096x8x96_S8x8x4096x4096_3_3_1_1_02_02 none q k)
    (broadcastInDim S8x8x4096x4096 ![] bcast_S_S8x8x4096x4096 (Host.sqrt (constant S_ .f32 0x42C00000#32)))

/-- The largest score of every query. -/
def rowMax (s : FVec Ideal S8x8x4096x4096 .f32) : FVec Ideal S8x8x4096 .f32 :=
  maximumf (broadcastInDim S8x8x4096 ![] bcast_S_S8x8x4096 (constant S_ .f32 0xFF800000#32))
    (Host.reduce FloatOps.maximumf s (constant S_ .f32 0xFF800000#32) reducesTo_S8x8x4096x4096_S8x8x4096_d3 h_S_)

/-- A value per query, repeated along the keys. -/
def spread (x : FVec Ideal S8x8x4096 .f32) : FVec Ideal S8x8x4096x4096 .f32 :=
  broadcastInDim S8x8x4096x4096 ![0, 1, 2, 3] bcast_S8x8x4096x1_S8x8x4096x4096_0_1_2_3
    (broadcastInDim S8x8x4096x1 ![0, 1, 2] bcast_S8x8x4096_S8x8x4096x1_0_1_2 x)

/-- The exponentials of the scores less their maximum. -/
def weights (s : FVec Ideal S8x8x4096x4096 .f32) : FVec Ideal S8x8x4096x4096 .f32 := Host.exp (subf s (spread (rowMax s)))

/-- The sum of a query's exponentials. -/
def rowSum (w : FVec Ideal S8x8x4096x4096 .f32) : FVec Ideal S8x8x4096 .f32 :=
  Host.reduceAdd w (constant S_ .f32 0x00000000#32) reducesTo_S8x8x4096x4096_S8x8x4096_d3 h_S_

/-- The probabilities. -/
def probs (w : FVec Ideal S8x8x4096x4096 .f32) : FVec Ideal S8x8x4096x4096 .f32 := Host.divf w (spread (rowSum w))

/-- The attention, channels before positions. -/
def result (p : FVec Ideal S8x8x4096x4096 .f32) : FVec Ideal S8x512x4096 .bf16 :=
  truncf .bf16 (transpose S8x512x4096 [0, 2, 1] (shapeCast _ (transpose S8x4096x8x64 [0, 3, 1, 2]
    (Host.dotGeneral dot_S8x4096x8x64_S8x8x4096x4096_S8x8x64x4096_1_3_3_2_02_01 none v p)
    transposes_S8x8x64x4096_S8x4096x8x64_0_3_1_2) shapeCasts_S8x4096x8x64_S8x4096x512) transposes_S8x4096x512_S8x512x4096_0_2_1) bitsLt_bf16_f32

end Cert.Proof.AttnRef

end
-- ==== Proof.Attn.RefValue.lean ====
/-
  The reference's result at an index, when queries and keys are real: the weighted sum of the values over
  the sum of the weights, the weight of a key being the exponential of its score.
-/
module

public import proofs.«01_k».proof.Proof.Attn.RefTerm
public import Idealize.ShloMosaic.Lib.KernelVsHost

@[expose] public section

set_option maxRecDepth 16384

noncomputable section

namespace Cert.Proof.AttnRef

open Cert.ReferenceIdeal Cert.ReferenceIdeal.Gen Cert.Proof.Attn
open Idealize.ShloMosaic Idealize.ShloMosaic.TcCoe

theorem reduces : S8x8x4096x4096.Reduces [3] S8x8x4096 := by decide

theorem floor_max_at (z : FVec Ideal S8x8x4096 .f32) (y : S8x8x4096.Idx) :
    maximumf (broadcastInDim S8x8x4096 ![] bcast_S_S8x8x4096 (constant (F := Ideal) S_ .f32 0xFF800000#32)) z y
      = max (Ideal.ofBits .f32 4286578688#32) (z y) := by
  pointwise

/-- A query's largest score, as a maximum along the keys. -/
theorem rowMax_at (s : FVec Ideal S8x8x4096x4096 .f32) (y : S8x8x4096.Idx) :
    rowMax s y = max (Ideal.ofBits .f32 4286578688#32)
      (multiReduction (F := Ideal) .maximumf [3] S8x8x4096 s 4286578688#32 reduces (.inl rfl) rfl y) :=
  (floor_max_at _ y).trans (congrArg (max _) (congrFun (hostReduce_maximumf_eq_multiReduction s 4286578688#32
    reducesTo_S8x8x4096x4096_S8x8x4096_d3 h_S_ reduces (.inl rfl) rfl) y))

/-- A query's largest score is real when its scores are. -/
theorem rowMax_real (s : FVec Ideal S8x8x4096x4096 .f32) (r : S8x8x4096x4096.Idx → ℝ) (hs : ∀ y, s y = (r y : EReal)) (y : S8x8x4096.Idx) :
    ∃ M : ℝ, rowMax s y = (M : EReal) := by
  obtain ⟨M, hM⟩ := axis_max_real s reduces (.inl rfl) rfl (by decide) y (fun i => r (reduces.lift y i)) fun i => hs _
  refine ⟨M, ?_⟩
  rw [rowMax_at, hM, word_neg_inf]
  exact max_eq_right bot_le

/-- The score of key `j` for query `i` in batch `b` and head `h`. -/
def score (qr kr : S8x4096x8x96.Idx → ℝ) (b h : Fin 8) (i j : Fin 4096) : ℝ :=
  (∑ x : Fin 96, qr (ix4 b i h x) * kr (ix4 b j h x)) * (Real.sqrt 96)⁻¹

variable {q k : FVec Ideal S8x4096x8x96 .f32} {v : FVec Ideal S8x4096x8x64 .f32} {qr kr : S8x4096x8x96.Idx → ℝ}

theorem scores_at (hq : ∀ y, q y = (qr y : EReal)) (hk : ∀ y, k y = (kr y : EReal)) (b h : Fin 8) (i j : Fin 4096) :
    scores q k (ix4 b h i j) = (score qr kr b h i j : EReal) := by
  have e : ∑ x : Fin 96, (q (ix4 b i h x) : EReal) * k (ix4 b j h x) = ((∑ x : Fin 96, qr (ix4 b i h x) * kr (ix4 b j h x) : ℝ) : EReal) := by
    rw [← sum_coe_mul]
    exact Finset.sum_congr rfl fun x _ => by rw [hq, hk]
  pointwise [scores]
  rw [e, sqrt_width, div_real _ (by positivity), ← EReal.coe_mul]
  rfl

theorem weights_at (s : FVec Ideal S8x8x4096x4096 .f32) (b h : Fin 8) (i j : Fin 4096) :
    weights s (ix4 b h i j) = Ideal.exp ((s (ix4 b h i j) : EReal) - rowMax s (ix3 b h i)) := by
  pointwise [weights, spread]

theorem probs_at (w : FVec Ideal S8x8x4096x4096 .f32) (b h : Fin 8) (i j : Fin 4096) :
    probs w (ix4 b h i j) = Ideal.div (w (ix4 b h i j)) (∑ x, (w (ix4 b h i x) : EReal)) := by
  pointwise [probs, spread, rowSum]

/-- The value of the attention at channel `e` of head `h`. -/
def attn (v : FVec Ideal S8x4096x8x64 .f32) (qr kr : S8x4096x8x96.Idx → ℝ) (b h : Fin 8) (e : Fin 64) (i : Fin 4096) : EReal :=
  Ideal.div (∑ j, (v (ix4 b j h e) : EReal) * ((Real.exp (score qr kr b h i j) : ℝ) : EReal))
    ((∑ j, Real.exp (score qr kr b h i j) : ℝ) : EReal)

/-- A query's exponentials are those of its scores less one real. -/
theorem row_at (hq : ∀ y, q y = (qr y : EReal)) (hk : ∀ y, k y = (kr y : EReal)) (b h : Fin 8) (i : Fin 4096) :
    ∃ M : ℝ, ∀ j, weights (scores q k) (ix4 b h i j) = Ideal.exp ((score qr kr b h i j : EReal) - (M : EReal)) := by
  have hs : ∀ z : S8x8x4096x4096.Idx, scores q k z = (score qr kr (z 0) (z 1) (z 2) (z 3) : EReal) := fun z => by
    have e : z = ix4 (z 0) (z 1) (z 2) (z 3) := by funext a; fin_cases a <;> rfl
    exact (congrArg (scores q k) e).trans (scores_at hq hk _ _ _ _)
  obtain ⟨M, hM⟩ := rowMax_real (scores q k) _ hs (ix3 b h i)
  exact ⟨M, fun j => by rw [weights_at, hM, scores_at hq hk]⟩

/-- The mean of the values by the probabilities. -/
theorem mean_at (hq : ∀ y, q y = (qr y : EReal)) (hk : ∀ y, k y = (kr y : EReal)) (b h : Fin 8) (e : Fin 64) (i : Fin 4096) :
    ∑ j, (v (ix4 b j h e) : EReal) * probs (weights (scores q k)) (ix4 b h i j) = attn v qr kr b h e i := by
  obtain ⟨M, hM⟩ := row_at hq hk b h i
  unfold attn
  rw [softmax_quot _ _ M]
  refine Finset.sum_congr rfl fun j _ => congrArg₂ (· * ·) rfl ?_
  rw [probs_at, hM]
  exact congrArg (Ideal.div _) (Finset.sum_congr rfl fun x _ => hM x)

/-- The reference's result at an index. -/
theorem result_at (hq : ∀ y, q y = (qr y : EReal)) (hk : ∀ y, k y = (kr y : EReal)) (y : S8x512x4096.Idx) :
    result v (probs (weights (scores q k))) y
      = attn v qr kr (y 0) ⟨(y 1).val / 64, by have : (y 1).val < 512 := (y 1).isLt; omega⟩ ⟨(y 1).val % 64, by omega⟩ (y 2) := by
  pointwise [result]
  exact mean_at hq hk _ _ _ _

end Cert.Proof.AttnRef

end
-- ==== Proof.Attn.Value.lean ====
/-
  The kernel's result is the reference's: at every grid point the blocks are real, the weight `2 ^ S` of a key
  is the exponential of the reference's score, and the output block holds the reference's quotient.
-/
module

public import proofs.«01_k».proof.Proof.Attn.Entry
public import proofs.«01_k».proof.Proof.Attn.Out
public import proofs.«01_k».proof.Proof.Attn.RefValue

@[expose] public section

set_option maxRecDepth 16384

noncomputable section

namespace Cert.Proof.Attn

open Cert.KernelIdeal Cert.KernelIdeal.Gen
open Idealize.ShloMosaic Idealize.ShloMosaic.TcCoe
open Cert.Proof.AttnRef (score attn scores weights probs result result_at)

/-- The factor the queries are scaled by on the way in. -/
def scale : ℝ := (Real.sqrt 96 * Real.log 2)⁻¹

theorem scale_eq : Ideal.div 1 (Ideal.sqrt (Ideal.ofBits .f32 1119879168#32) * Ideal.log (Ideal.ofBits .f32 1073741824#32)) = (scale : EReal) := by
  have h2 : Real.log 2 ≠ 0 := (Real.log_pos one_lt_two).ne'
  rw [sqrt_width, log_two, ← EReal.coe_mul, div_real _ (by positivity), one_mul]
  rfl

/-- The queries and the keys of one batch and head, with their padding lanes. -/
def Qr (qr : S8x4096x8x96.Idx → ℝ) (b h : Fin 8) (d : Fin 128) (i : Fin 4096) : ℝ :=
  if hd : d.val < 96 then qr (ix4 b i h ⟨d.val, hd⟩) * scale else 0
def Kr (kr : S8x4096x8x96.Idx → ℝ) (b h : Fin 8) (j : Fin 4096) (d : Fin 128) : ℝ :=
  if hd : d.val < 96 then kr (ix4 b j h ⟨d.val, hd⟩) else if d.val - 96 < 1 then 1 else 0

/-- A sum over 128 lanes whose last 32 vanish. -/
theorem sum_lanes (f : Fin 128 → ℝ) (hf : ∀ d : Fin 128, ¬ d.val < 96 → f d = 0) : ∑ d, f d = ∑ x : Fin 96, f ⟨x.val, by omega⟩ := by
  rw [show (∑ d, f d) = ∑ d : Fin (96 + 32), f d from rfl, Fin.sum_univ_add]
  rw [show (∑ i : Fin 32, f (Fin.natAdd 96 i)) = 0 from Finset.sum_eq_zero fun i _ => hf _ (by simp), add_zero]
  rfl

variable (qr kr : S8x4096x8x96.Idx → ℝ)

/-- The kernel's score is the reference's over `log 2`. -/
theorem S_eq (b h : Fin 8) (j i : Fin 4096) :
    S (Qr qr b h) (Kr kr b h) j i = score qr kr b h i j * (Real.log 2)⁻¹ := by
  unfold S
  rw [sum_lanes _ fun d hd => by unfold Qr; rw [dif_neg hd, mul_zero]]
  unfold score
  rw [Finset.sum_mul, Finset.sum_mul]
  refine Finset.sum_congr rfl fun x _ => ?_
  unfold Qr Kr
  rw [dif_pos x.isLt, dif_pos x.isLt]
  unfold scale
  rw [mul_inv]; ring

theorem weight_eq (b h : Fin 8) (j i : Fin 4096) :
    (2 : ℝ) ^ S (Qr qr b h) (Kr kr b h) j i = Real.exp (score qr kr b h i j) := by
  have h2 : Real.log 2 ≠ 0 := (Real.log_pos one_lt_two).ne'
  rw [S_eq, Real.rpow_def_of_pos two_pos]
  congr 1
  field_simp

section
variable (m : (ℓ : Loc nD τ sig) → Buf (Elt Ideal) ℓ) (c : Dev nD)
variable {qr kr} (hq : ∀ y : S8x4096x8x96.Idx, (m ((c.tc : Thread nD τ).loc main_arg0) y : EReal) = (qr y : EReal))
  (hk : ∀ y : S8x4096x8x96.Idx, (m ((c.tc : Thread nD τ).loc main_arg1) y : EReal) = (kr y : EReal))

include hq hk in
/-- The blocks of a grid point are real. -/
theorem blocks (t : Fin cfg0.N) :
    Blocks (iblk m c 0 t) (iblk m c 1 t) (iblk m c 2 t) (Qr qr (batch t) (head t)) (Kr kr (batch t) (head t)) where
  q d i := by
    refine (block0 m c t d i).trans ((queries_at m c _ _ d i).trans ?_)
    unfold Qr
    split
    · rw [scale_eq, EReal.coe_mul, ← hq]
    · rfl
  k j d := by
    refine (block1 m c t j d).trans ((keys_at m c _ _ j d).trans ?_)
    unfold Kr
    split
    · exact hk _
    · split <;> rfl
  q96 i := dif_neg (by decide)
  k96 j := (dif_neg (by decide)).trans (if_pos (by decide))
  v64 j := (block2 m c t 64 j).trans ((values_at m c _ _ 64 j).trans (dif_neg (by decide)))

/-- The quotient at a grid point is the reference's. -/
theorem quot_eq (t : Fin cfg0.N) (u : Fin 64) (i : Fin 4096) :
    quot (Qr qr (batch t) (head t)) (Kr kr (batch t) (head t)) (iblk m c 2 t) u i
      = attn (m ((c.tc : Thread nD τ).loc main_arg2)) qr kr (batch t) (head t) u i := by
  unfold quot attn A L
  simp only [weight_eq]
  refine congrArg (Ideal.div · _) (Finset.sum_congr rfl fun j _ => congrArg (· * _) ?_)
  exact (block2 m c t _ j).trans ((values_at m c _ _ _ j).trans (dif_pos u.isLt))

include hq hk in
/-- The output array at the end. -/
theorem final : (dats m 0 c).arrAt 3 cfg0.N
    = result (m ((c.tc : Thread nD τ).loc main_arg2)) (probs (weights (scores (m ((c.tc : Thread nD τ).loc main_arg0)) (m ((c.tc : Thread nD τ).loc main_arg1))))) := by
  refine (dats m 0 c).arrAt_eq_of_covers 3 _ (by decide +kernel) fun t _ y => ?_
  blk_simp
  rw [after0_3]
  refine (out_at (blocks m c hq hk t) y).trans ((quot_eq m c t _ _).trans ((result_at hq hk _).trans ?_).symm)
  have e0 : (win0_3.blk t).view.emb y 0 = batch t := by
    apply Fin.ext
    have h0 : (y 0).val = 0 := by have : (y 0).val < 1 := (y 0).isLt; omega
    show win0_3.index t 0 * 1 + 1 * (y 0).val = t.val / 8
    rw [(idx t).2.2.2, h0]
    show (t.val / 8) * 1 + 1 * 0 = _
    omega
  have e1 : ((win0_3.blk t).view.emb y 1).val = 64 * (t.val % 8) + (y 1).val := by
    show win0_3.index t 1 * 64 + 1 * (y 1).val = _
    rw [(idx t).2.2.2]
    show (t.val % 8) * 64 + _ = _
    omega
  have e2 : (win0_3.blk t).view.emb y 2 = y 2 := by
    apply Fin.ext
    show win0_3.index t 2 * 4096 + 1 * (y 2).val = (y 2).val
    rw [(idx t).2.2.2]
    show 0 * 4096 + _ = _
    omega
  have hu : (y 1).val < 64 := (y 1).isLt
  rw [e0, e2]
  have d1 : (⟨((win0_3.blk t).view.emb y 1).val / 64, by rw [e1]; omega⟩ : Fin 8) = head t :=
    Fin.ext (by show _ / 64 = t.val % 8; rw [e1]; omega)
  have d2 : (⟨((win0_3.blk t).view.emb y 1).val % 64, by omega⟩ : Fin 64) = y 1 :=
    Fin.ext (by show _ % 64 = (y 1).val; rw [e1]; omega)
  exact congrArg₂ (fun a b => attn _ qr kr (batch t) a b (y 2)) d1 d2
end

end Cert.Proof.Attn

end
-- ==== Proof.Ffn.Row.lean ====
/-
  One token's row through the layer's last call, as mathematics on rows of numbers: the gated sum of the two
  branches, its projection, a scaled residual and layer normalisation, the gated feed-forward, and a second
  scaled residual and layer normalisation.
-/
module

public import Idealize.ShloMosaic.Lib.Pipeline.ValueKit
public import Idealize.ShloMosaic.Lib.KernelVsHost
public import Mathlib.Analysis.SpecialFunctions.Pow.Real

@[expose] public section

noncomputable section

namespace Cert.Proof.Ffn

open Idealize.ShloMosaic

/-- The mean of a row of 1024 entries. -/
def mean (v : Fin 1024 → EReal) : EReal := Ideal.div (∑ j, v j) (Ideal.ofBits .f32 0x44800000#32)

/-- The variance of a row. -/
def var (v : Fin 1024 → EReal) : EReal :=
  Ideal.div (∑ j, (v j - mean v) * (v j - mean v)) (Ideal.ofBits .f32 0x44800000#32)

/-- The normalised row, scaled by `g` and shifted by `b`. -/
def norm (v g b : Fin 1024 → EReal) (j : Fin 1024) : EReal :=
  (v j - mean v) * Ideal.rsqrt (var v + Ideal.ofBits .f32 0x3727C5AC#32) * g j + b j

/-- The gated sum of the two branches. -/
def merged (ga gb : Fin 1024 → EReal) (f o : Fin 512 → EReal) (wf wa : Fin 512 → Fin 1024 → EReal) (d : Fin 1024) : EReal :=
  ga d * (∑ e, f e * wf e d) + gb d * ∑ e, o e * wa e d

/-- A row times a matrix. -/
def apply {k n : ℕ} (v : Fin k → EReal) (w : Fin k → Fin n → EReal) (j : Fin n) : EReal := ∑ d, v d * w d j

/-- The residual sum, its first term scaled by `a`. -/
def residual (a : EReal) (x y : Fin 1024 → EReal) (j : Fin 1024) : EReal := a * x j + y j

/-- The gated activations of the feed-forward. -/
def act (h : Fin 1024 → EReal) (wg wu : Fin 1024 → Fin 2816 → EReal) (d : Fin 2816) : EReal :=
  apply h wg d * Ideal.div 1 (1 + Ideal.exp (-apply h wg d)) * apply h wu d

/-- The weights of the call. -/
structure Weights where
  wf : Fin 512 → Fin 1024 → EReal
  wa : Fin 512 → Fin 1024 → EReal
  wo : Fin 1024 → Fin 1024 → EReal
  wg : Fin 1024 → Fin 2816 → EReal
  wu : Fin 1024 → Fin 2816 → EReal
  wd : Fin 2816 → Fin 1024 → EReal
  g1 : Fin 1024 → EReal
  b1 : Fin 1024 → EReal
  g2 : Fin 1024 → EReal
  b2 : Fin 1024 → EReal

/-- The residual sum after the two branches. -/
def first (a : EReal) (w : Weights) (x ga gb : Fin 1024 → EReal) (f o : Fin 512 → EReal) : Fin 1024 → EReal :=
  residual a x (apply (merged ga gb f o w.wf w.wa) w.wo)

/-- The residual sum after the feed-forward of a row `h`. -/
def second (a : EReal) (w : Weights) (h : Fin 1024 → EReal) : Fin 1024 → EReal :=
  residual a h (apply (act h w.wg w.wu) w.wd)

/-- The row the call returns. -/
def row (a : EReal) (w : Weights) (x ga gb : Fin 1024 → EReal) (f o : Fin 512 → EReal) : Fin 1024 → EReal :=
  norm (second a w (norm (first a w x ga gb f o) w.g1 w.b1)) w.g2 w.b2

/-- The residual's scale. -/
def alpha : EReal := ((Real.sqrt (Real.sqrt 2) : ℝ) : EReal)

end Cert.Proof.Ffn

end
-- ==== Proof.Ffn.Group.lean ====
/-
  What the kernel computes for a group of 256 tokens, in named steps, and each step at an index.
-/
module

public import proofs.«01_k».proof.Proof.Gen.Kernel2Ideal.Value
public import proofs.«01_k».proof.Proof.Ffn.Row
public import Idealize.ShloMosaic.Lib.Pipeline.ValueKit

@[expose] public section

set_option maxRecDepth 16384

noncomputable section

namespace Cert.Proof.Ffn

open Cert.Kernel2Ideal Cert.Kernel2Ideal.Gen
open Idealize.ShloMosaic Idealize.ShloMosaic.TcCoe

/-- The means of the rows. -/
def meanOf (v : FVec Ideal S256x1024 .f32) : FVec Ideal S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

/-- The rows less their means. -/
def centre (v : FVec Ideal S256x1024 .f32) : FVec Ideal S256x1024 .f32 :=
  subf v (broadcastTo S256x1024 (meanOf v) broadcasts_S256x1_S256x1024)

/-- The layer normalisation of every row. -/
def normOf (v : FVec Ideal S256x1024 .f32) (g b : FVec Ideal S1x1024 .f32) : FVec Ideal S256x1024 .f32 :=
  addf (mulf (mulf (centre v) (broadcastTo S256x1024 (rsqrt (addf (meanOf (mulf (centre v) (centre v)))
      (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- The scaled residual sum. -/
def residualOf (x y : FVec Ideal S256x1024 .f32) : FVec Ideal S256x1024 .f32 :=
  addf (mulf (broadcast S256x1024 (Named.named κ "alpha" 0x3F9837F0#32)) x) y

variable (x : FVec Ideal S1x256x1024 .f32) (gates : FVec Ideal S1x256x2048 .bf16) (f : FVec Ideal S1x256x512 .bf16) (ot : FVec Ideal S1x512x256 .bf16)
  (wf wa : FVec Ideal S512x1024 .bf16) (wo : FVec Ideal S1024x1024 .bf16) (wg wu : FVec Ideal S1024x2816 .bf16) (wd : FVec Ideal S2816x1024 .bf16)
  (g1 b1 g2 b2 : FVec Ideal S1x1024 .f32)

/-- The residual sum after the two branches. -/
def firstOf : FVec Ideal S256x1024 .f32 :=
  residualOf (shapeCast S256x1024 x shapeCasts_S1x256x1024_S256x1024) (k0_pay2 f wf ot wa gates wo)

/-- The residual sum after the feed-forward. -/
def secondOf (h : FVec Ideal S256x1024 .f32) : FVec Ideal S256x1024 .f32 := residualOf h (k0_pay18 h wg wu wd)

/-- The group's result. -/
def groupOf : FVec Ideal S1x256x1024 .f32 :=
  shapeCast S1x256x1024 (normOf (secondOf wg wu wd (normOf (firstOf x gates f ot wf wa wo) g1 b1)) g2 b2) shapeCasts_S256x1024_S1x256x1024

theorem alpha_named : (Named.named (F := Ideal) κ "alpha" 0x3F9837F0#32 : Ideal .f32) = alpha := rfl

theorem meanOf_at (v : FVec Ideal S256x1024 .f32) (r : Fin 256) (u : Fin 1) : meanOf v (ix2 r u) = mean fun j => v (ix2 r j) := by
  pointwise [meanOf]
  rfl

theorem centre_at (v : FVec Ideal S256x1024 .f32) (r : Fin 256) (j : Fin 1024) :
    centre v (ix2 r j) = (v (ix2 r j) : EReal) - mean fun j => v (ix2 r j) := by
  have e := meanOf_at v r 0
  pointwise [centre]
  rw [e]

theorem normOf_at (v : FVec Ideal S256x1024 .f32) (g b : FVec Ideal S1x1024 .f32) (r : Fin 256) (j : Fin 1024) :
    normOf v g b (ix2 r j) = norm (fun j => v (ix2 r j)) (fun j => g (ix2 0 j)) (fun j => b (ix2 0 j)) j := by
  have e := meanOf_at (mulf (centre v) (centre v)) r 0
  have e' : (mean fun j => mulf (centre v) (centre v) (ix2 r j)) = var fun j => v (ix2 r j) := by
    unfold mean var
    refine congrArg (Ideal.div · _) (Finset.sum_congr rfl fun j _ => ?_)
    exact congrArg₂ (· * ·) (centre_at v r j) (centre_at v r j)
  have c := centre_at v r j
  pointwise [normOf]
  rw [e, e', c]
  rfl

theorem residualOf_at (x y : FVec Ideal S256x1024 .f32) (r : Fin 256) (j : Fin 1024) :
    residualOf x y (ix2 r j) = residual alpha (fun j => x (ix2 r j)) (fun j => y (ix2 r j)) j := by
  pointwise [residualOf]
  rfl

theorem mix_at (r : Fin 256) (j : Fin 1024) : k0_pay2 (F := Ideal) f wf ot wa gates wo (ix2 r j)
    = apply (merged (fun d => gates (ix3 0 r ⟨d.val, by omega⟩)) (fun d => gates (ix3 0 r ⟨1024 + d.val, by omega⟩))
        (fun e => f (ix3 0 r e)) (fun e => ot (ix3 0 e r)) (fun e d => wf (ix2 e d)) (fun e d => wa (ix2 e d))) (fun d j => wo (ix2 d j)) j := by
  pointwise [k0_pay2]
  rfl

theorem feed_at (h : FVec Ideal S256x1024 .f32) (r : Fin 256) (j : Fin 1024) : k0_pay18 (F := Ideal) h wg wu wd (ix2 r j)
    = apply (act (fun d => h (ix2 r d)) (fun d e => wg (ix2 d e)) (fun d e => wu (ix2 d e))) (fun d j => wd (ix2 d j)) j := by
  pointwise [k0_pay18]
  rfl

/-- The weights a block carries. -/
def weightsOf : Weights where
  wf e d := wf (ix2 e d)
  wa e d := wa (ix2 e d)
  wo d j := wo (ix2 d j)
  wg d e := wg (ix2 d e)
  wu d e := wu (ix2 d e)
  wd d j := wd (ix2 d j)
  g1 j := g1 (ix2 0 j)
  b1 j := b1 (ix2 0 j)
  g2 j := g2 (ix2 0 j)
  b2 j := b2 (ix2 0 j)

/-- The group's result at an index: its token's row. -/
theorem groupOf_at (r : Fin 256) (j : Fin 1024) : groupOf x gates f ot wf wa wo wg wu wd g1 b1 g2 b2 (ix3 0 r j)
    = row alpha (weightsOf wf wa wo wg wu wd g1 b1 g2 b2) (fun j => x (ix3 0 r j)) (fun d => gates (ix3 0 r ⟨d.val, by omega⟩))
        (fun d => gates (ix3 0 r ⟨1024 + d.val, by omega⟩)) (fun e => f (ix3 0 r e)) (fun e => ot (ix3 0 e r)) j := by
  have hx : ∀ j, shapeCast S256x1024 x shapeCasts_S1x256x1024_S256x1024 (ix2 r j) = x (ix3 0 r j) := fun j => by pointwise
  have h1 : ∀ j, firstOf x gates f ot wf wa wo (ix2 r j) = first alpha (weightsOf wf wa wo wg wu wd g1 b1 g2 b2) (fun j => x (ix3 0 r j))
      (fun d => gates (ix3 0 r ⟨d.val, by omega⟩)) (fun d => gates (ix3 0 r ⟨1024 + d.val, by omega⟩)) (fun e => f (ix3 0 r e)) (fun e => ot (ix3 0 e r)) j :=
    fun j => (residualOf_at _ _ r j).trans (congrArg₂ (residual alpha · · j) (funext hx) (funext fun j => mix_at gates f ot wf wa wo r j))
  have h2 : ∀ j, normOf (firstOf x gates f ot wf wa wo) g1 b1 (ix2 r j) = norm (first alpha (weightsOf wf wa wo wg wu wd g1 b1 g2 b2) (fun j => x (ix3 0 r j))
      (fun d => gates (ix3 0 r ⟨d.val, by omega⟩)) (fun d => gates (ix3 0 r ⟨1024 + d.val, by omega⟩)) (fun e => f (ix3 0 r e)) (fun e => ot (ix3 0 e r)))
      (fun j => g1 (ix2 0 j)) (fun j => b1 (ix2 0 j)) j :=
    fun j => (normOf_at _ g1 b1 r j).trans (congrArg (norm · _ _ j) (funext h1))
  have h3 : ∀ h j, secondOf wg wu wd h (ix2 r j) = second alpha (weightsOf wf wa wo wg wu wd g1 b1 g2 b2) (fun j => h (ix2 r j)) j :=
    fun h j => (residualOf_at _ _ r j).trans (congrArg (residual alpha _ · j) (funext fun j => feed_at wg wu wd h r j))
  have e : ∀ v : FVec Ideal S256x1024 .f32, shapeCast S1x256x1024 v shapeCasts_S256x1024_S1x256x1024 (ix3 0 r j) = v (ix2 r j) := fun v => by pointwise
  refine (e _).trans ((normOf_at _ g2 b2 r j).trans (congrArg (norm · _ _ j) (funext fun j => ?_)))
  exact (h3 _ j).trans (congrArg (second alpha _ · j) (funext h2))

end Cert.Proof.Ffn

end
-- ==== Proof.Ffn.Out.lean ====
/-
  The output block of a grid point, at an index: whichever of the two groups of 256 tokens wrote it, the value
  is its token's row.
-/
module

public import proofs.«01_k».proof.Proof.Ffn.Group

@[expose] public section

set_option maxRecDepth 16384

noncomputable section

namespace Cert.Proof.Ffn

open Cert.Kernel2Ideal Cert.Kernel2Ideal.Gen
open Idealize.ShloMosaic Idealize.ShloMosaic.TcCoe
open Idealize.ShloMosaic.View (ld)

variable (x0 : Vec Ideal S1x512x1024 .f32) (x1 : Vec Ideal S1x512x2048 .bf16) (x2 x3 : Vec Ideal S1x512x512 .bf16)
  (x4 x5 : Vec Ideal S512x1024 .bf16) (x6 : Vec Ideal S1024x1024 .bf16) (x7 x8 : Vec Ideal S1024x2816 .bf16) (x9 : Vec Ideal S2816x1024 .bf16)
  (x10 x11 x12 x13 : Vec Ideal S1x1024 .f32)

/-- The token's row of the output block. -/
def blockRow (i : Fin 512) (j : Fin 1024) : EReal :=
  row alpha (weightsOf x4 x5 x6 x7 x8 x9 x10 x11 x12 x13) (fun j => x0 (ix3 0 i j)) (fun d => x1 (ix3 0 i ⟨d.val, by omega⟩))
    (fun d => x1 (ix3 0 i ⟨1024 + d.val, by omega⟩)) (fun e => x2 (ix3 0 i e)) (fun e => x3 (ix3 0 e i)) j

/-- The output block: the two groups' results. -/
theorem out_eq : out0_14 (F := Ideal) x0 x1 x2 x3 x4 x5 x6 x7 x8 x9 x10 x11 x12 x13
    = View.canon (Val := Elt Ideal)
      [⟨r0_10, groupOf (ld x0 r0_10) (ld x1 r0_7) (ld x2 r0_5) (ld x3 r0_6) (ld x4 r0_1) (ld x5 r0_1) (ld x6 r0_4) (ld x7 r0_11) (ld x8 r0_11) (ld x9 r0_12)
        (ld x10 r0_9) (ld x11 r0_9) (ld x12 r0_9) (ld x13 r0_9)⟩,
       ⟨r0_8, groupOf (ld x0 r0_8) (ld x1 r0_3) (ld x2 r0_0) (ld x3 r0_2) (ld x4 r0_1) (ld x5 r0_1) (ld x6 r0_4) (ld x7 r0_11) (ld x8 r0_11) (ld x9 r0_12)
        (ld x10 r0_9) (ld x11 r0_9) (ld x12 r0_9) (ld x13 r0_9)⟩] := by
  rfl

/-- The group of the tokens from `s` on. -/
theorem group_at (s : ℕ) (hs : s ≤ 256) {h0 h1 h2 h3} (r : Fin 256) (j : Fin 1024) :
    groupOf (ld (Val := Elt Ideal) (e' := EltTy.f32) x0 (Rect.unit (s := S1x512x1024) ![0, s, 0] S1x256x1024.size h0))
      (ld (Val := Elt Ideal) (e' := EltTy.bf16) x1 (Rect.unit (s := S1x512x2048) ![0, s, 0] S1x256x2048.size h1))
      (ld (Val := Elt Ideal) (e' := EltTy.bf16) x2 (Rect.unit (s := S1x512x512) ![0, s, 0] S1x256x512.size h2))
      (ld (Val := Elt Ideal) (e' := EltTy.bf16) x3 (Rect.unit (s := S1x512x512) ![0, 0, s] S1x512x256.size h3))
      x4 x5 x6 x7 x8 x9 x10 x11 x12 x13 (ix3 0 r j)
      = blockRow x0 x1 x2 x3 x4 x5 x6 x7 x8 x9 x10 x11 x12 x13 ⟨s + r.val, by omega⟩ j := by
  refine (groupOf_at _ _ _ _ _ _ _ _ _ _ _ _ _ _ r j).trans ?_
  unfold blockRow
  congr 1 <;> funext d
  · refine congrArg x0 ?_
    funext a; apply Fin.ext; fin_cases a
    · rfl
    · show s + 1 * r.val = s + r.val; omega
    · show 0 + 1 * d.val = d.val; omega
  · refine congrArg x1 ?_
    funext a; apply Fin.ext; fin_cases a
    · rfl
    · show s + 1 * r.val = s + r.val; omega
    · show 0 + 1 * d.val = d.val; omega
  · refine congrArg x1 ?_
    funext a; apply Fin.ext; fin_cases a
    · rfl
    · show s + 1 * r.val = s + r.val; omega
    · show 0 + 1 * (1024 + d.val) = 1024 + d.val; omega
  · refine congrArg x2 ?_
    funext a; apply Fin.ext; fin_cases a
    · rfl
    · show s + 1 * r.val = s + r.val; omega
    · show 0 + 1 * d.val = d.val; omega
  · refine congrArg x3 ?_
    funext a; apply Fin.ext; fin_cases a
    · rfl
    · show 0 + 1 * d.val = d.val; omega
    · show s + 1 * r.val = s + r.val; omega

/-- A piece agrees with the rows where it is written. -/
theorem piece_at (s : ℕ) (hs : s ≤ 256) {hb} (w : FVec Ideal S1x256x1024 .f32) (R : Fin 512 → Fin 1024 → EReal)
    (hw : ∀ r j, w (ix3 0 r j) = R ⟨s + r.val, by omega⟩ j) (x : S1x256x1024.Idx) :
    w x = R ((Rect.unit (s := S1x512x1024) ![0, s, 0] S1x256x1024.size hb).emb x 1) ((Rect.unit (s := S1x512x1024) ![0, s, 0] S1x256x1024.size hb).emb x 2) := by
  have hx : x = ix3 0 (x 1) (x 2) := by
    funext a
    fin_cases a
    · exact Subsingleton.elim (α := Fin 1) _ _
    · rfl
    · rfl
  rw [hx]
  refine (hw (x 1) (x 2)).trans ?_
  congr 1
  · apply Fin.ext
    show s + (x 1).val = s + 1 * (x 1).val; omega
  · apply Fin.ext
    show (x 2).val = 0 + 1 * (x 2).val; omega

/-- The output block at an index. -/
theorem out_at (y : S1x512x1024.Idx) : out0_14 (F := Ideal) x0 x1 x2 x3 x4 x5 x6 x7 x8 x9 x10 x11 x12 x13 y
    = blockRow x0 x1 x2 x3 x4 x5 x6 x7 x8 x9 x10 x11 x12 x13 (y 1) (y 2) := by
  rw [out_eq]
  refine View.canon_apply_of_pieces (Val := Elt Ideal)
    (fun y : S1x512x1024.Idx => blockRow x0 x1 x2 x3 x4 x5 x6 x7 x8 x9 x10 x11 x12 x13 (y 1) (y 2)) _ ?_ y (cover0_14 _ _ y)
  have e4 : ld (Val := Elt Ideal) (e' := EltTy.bf16) x4 r0_1 = x4 := View.ld_unit_lit _ _ (by decide)
  have e5 : ld (Val := Elt Ideal) (e' := EltTy.bf16) x5 r0_1 = x5 := View.ld_unit_lit _ _ (by decide)
  have e6 : ld (Val := Elt Ideal) (e' := EltTy.bf16) x6 r0_4 = x6 := View.ld_unit_lit _ _ (by decide)
  have e7 : ld (Val := Elt Ideal) (e' := EltTy.bf16) x7 r0_11 = x7 := View.ld_unit_lit _ _ (by decide)
  have e8 : ld (Val := Elt Ideal) (e' := EltTy.bf16) x8 r0_11 = x8 := View.ld_unit_lit _ _ (by decide)
  have e9 : ld (Val := Elt Ideal) (e' := EltTy.bf16) x9 r0_12 = x9 := View.ld_unit_lit _ _ (by decide)
  have e10 : ld (Val := Elt Ideal) (e' := EltTy.f32) x10 r0_9 = x10 := View.ld_unit_lit _ _ (by decide)
  have e11 : ld (Val := Elt Ideal) (e' := EltTy.f32) x11 r0_9 = x11 := View.ld_unit_lit _ _ (by decide)
  have e12 : ld (Val := Elt Ideal) (e' := EltTy.f32) x12 r0_9 = x12 := View.ld_unit_lit _ _ (by decide)
  have e13 : ld (Val := Elt Ideal) (e' := EltTy.f32) x13 r0_9 = x13 := View.ld_unit_lit _ _ (by decide)
  intro p hp
  rcases List.mem_cons.1 hp with rfl | hp
  · refine piece_at 256 (by decide) (hb := inb_S1x512x1024_S1x256x1024_0_256_0) _ _ fun r j => ?_
    rw [e4, e5, e6, e7, e8, e9, e10, e11, e12, e13]
    exact group_at x0 x1 x2 x3 x4 x5 x6 x7 x8 x9 x10 x11 x12 x13 256 (by decide) r j
  · obtain rfl := List.mem_singleton.1 hp
    refine piece_at 0 (by decide) (hb := inb_S1x512x1024_S1x256x1024_0_0_0) _ _ fun r j => ?_
    rw [e4, e5, e6, e7, e8, e9, e10, e11, e12, e13]
    exact group_at x0 x1 x2 x3 x4 x5 x6 x7 x8 x9 x10 x11 x12 x13 0 (by decide) r j

end Cert.Proof.Ffn

end
-- ==== Proof.Ffn.RefValue.lean ====
/-
  The reference's result at an index: its token's row.
-/
module

public import proofs.«01_k».proof.Proof.Gen.Reference2Ideal.Run
public import proofs.«01_k».proof.Proof.Ffn.Row

@[expose] public section

set_option maxRecDepth 16384

noncomputable section

namespace Cert.Proof.FfnRef

open Cert.Reference2Ideal Cert.Reference2Ideal.Gen Cert.Proof.Ffn
open Idealize.ShloMosaic Idealize.ShloMosaic.TcCoe

/-- The means of the rows. -/
def meanOf (v : FVec Ideal S8x4096x1024 .f32) : FVec Ideal S8x4096x1 .f32 :=
  Host.divf (broadcastInDim S8x4096x1 ![0, 1] bcast_S8x4096_S8x4096x1_0_1 (Host.reduceAdd v (constant S_ .f32 0x00000000#32) reducesTo_S8x4096x1024_S8x4096_d2 h_S_))
    (broadcastInDim S8x4096x1 ![] bcast_S_S8x4096x1 (constant S_ .f32 0x44800000#32))

/-- The rows less their means. -/
def centre (v : FVec Ideal S8x4096x1024 .f32) : FVec Ideal S8x4096x1024 .f32 :=
  subf v (broadcastInDim S8x4096x1024 ![0, 1, 2] bcast_S8x4096x1_S8x4096x1024_0_1_2 (meanOf v))

/-- One row of numbers, repeated for every token. -/
def spread (g : FVec Ideal S1024 .f32) : FVec Ideal S8x4096x1024 .f32 :=
  broadcastInDim S8x4096x1024 ![0, 1, 2] bcast_S1x1x1024_S8x4096x1024_0_1_2 (broadcastInDim S1x1x1024 ![2] bcast_S1024_S1x1x1024_2 g)

/-- The layer normalisation of every row. -/
def normOf (v : FVec Ideal S8x4096x1024 .f32) (g b : FVec Ideal S1024 .f32) : FVec Ideal S8x4096x1024 .f32 :=
  addf (mulf (mulf (centre v) (broadcastInDim S8x4096x1024 ![0, 1, 2] bcast_S8x4096x1_S8x4096x1024_0_1_2
    (Host.rsqrt (addf (meanOf (mulf (centre v) (centre v))) (broadcastInDim S8x4096x1 ![] bcast_S_S8x4096x1 (constant S_ .f32 0x3727C5AC#32))))))
    (spread g)) (spread b)

/-- The scaled residual sum. -/
def residualOf (x y : FVec Ideal S8x4096x1024 .f32) : FVec Ideal S8x4096x1024 .f32 :=
  addf (mulf (broadcastInDim S8x4096x1024 ![] bcast_S_S8x4096x1024 (Host.sqrt (Host.sqrt (constant S_ .f32 0x40000000#32)))) x) y

variable (x : FVec Ideal S8x4096x1024 .f32) (gates : FVec Ideal S8x4096x2048 .f32) (f o : FVec Ideal S8x4096x512 .f32)
  (wf wa : FVec Ideal S512x1024 .f32) (wo : FVec Ideal S1024x1024 .f32) (g1 b1 : FVec Ideal S1024 .f32)
  (wg wu : FVec Ideal S1024x2816 .f32) (wd : FVec Ideal S2816x1024 .f32) (g2 b2 : FVec Ideal S1024 .f32)

/-- The branches' gated sum, projected. -/
def mixOf : FVec Ideal S8x4096x1024 .f32 :=
  Host.dotGeneral dot_S8x4096x1024_S1024x1024_S8x4096x1024_2_0_01_1_n_n none (addf
    (mulf (shapeCast _ (extractStridedSlice S8x4096x1x1024 ![0, 0, 0, 0] (shapeCast _ gates shapeCasts_S8x4096x2048_S8x4096x2x1024)
        slices_S8x4096x2x1024_S8x4096x1x1024_0_0_0_0) shapeCasts_S8x4096x1x1024_S8x4096x1024)
      (Host.dotGeneral dot_S8x4096x512_S512x1024_S8x4096x1024_2_0_01_1_n_n none f wf))
    (mulf (shapeCast _ (extractStridedSlice S8x4096x1x1024 ![0, 0, 1, 0] (shapeCast _ gates shapeCasts_S8x4096x2048_S8x4096x2x1024)
        slices_S8x4096x2x1024_S8x4096x1x1024_0_0_1_0) shapeCasts_S8x4096x1x1024_S8x4096x1024)
      (Host.dotGeneral dot_S8x4096x512_S512x1024_S8x4096x1024_2_0_01_1_n_n none o wa))) wo

/-- The gate of the feed-forward before its activation. -/
def gateOf (h : FVec Ideal S8x4096x1024 .f32) (wg : FVec Ideal S1024x2816 .f32) : FVec Ideal S8x4096x2816 .f32 :=
  Host.dotGeneral dot_S8x4096x1024_S1024x2816_S8x4096x2816_2_0_01_1_n_n none h wg

/-- The feed-forward. -/
def feedOf (h : FVec Ideal S8x4096x1024 .f32) : FVec Ideal S8x4096x1024 .f32 :=
  Host.dotGeneral dot_S8x4096x2816_S2816x1024_S8x4096x1024_2_0_01_1_n_n none (mulf (mulf (gateOf h wg)
    (Host.divf (broadcastInDim S8x4096x2816 ![] bcast_S_S8x4096x2816 (constant S_ .f32 0x3F800000#32))
      (addf (broadcastInDim S8x4096x2816 ![] bcast_S_S8x4096x2816 (constant S_ .f32 0x3F800000#32)) (Host.exp (Host.negf (gateOf h wg))))))
    (gateOf h wu)) wd

/-- The reference's result. -/
def result : FVec Ideal S8x4096x1024 .f32 :=
  let h := normOf (residualOf x (mixOf gates f o wf wa wo)) g1 b1
  normOf (residualOf h (feedOf wg wu wd h)) g2 b2

/-- The residual's scale, as the reference computes it. -/
theorem scale_eq : Ideal.sqrt (Ideal.sqrt (Ideal.ofBits .f32 0x40000000#32)) = alpha := by
  have e : Ideal.ofBits .f32 0x40000000#32 = ((2 : ℝ) : EReal) := by
    simp [Ideal.ofBits, Ideal.ieee]
    rw [← EReal.coe_mul]
    norm_num
  rw [e, Ideal.sqrt_coe, if_neg (by norm_num), Ideal.sqrt_coe, if_neg (not_lt.2 (Real.sqrt_nonneg 2))]
  rfl

theorem meanOf_at (v : FVec Ideal S8x4096x1024 .f32) (b : Fin 8) (i : Fin 4096) (u : Fin 1) : meanOf v (ix3 b i u) = mean fun j => v (ix3 b i j) := by
  pointwise [meanOf]
  rfl

theorem centre_at (v : FVec Ideal S8x4096x1024 .f32) (b : Fin 8) (i : Fin 4096) (j : Fin 1024) :
    centre v (ix3 b i j) = (v (ix3 b i j) : EReal) - mean fun j => v (ix3 b i j) := by
  have e := meanOf_at v b i 0
  pointwise [centre]
  rw [e]

theorem normOf_at (v : FVec Ideal S8x4096x1024 .f32) (g s : FVec Ideal S1024 .f32) (b : Fin 8) (i : Fin 4096) (j : Fin 1024) :
    normOf v g s (ix3 b i j) = norm (fun j => v (ix3 b i j)) (fun j => g (ix1 j)) (fun j => s (ix1 j)) j := by
  have e := meanOf_at (mulf (centre v) (centre v)) b i 0
  have e' : (mean fun j => mulf (centre v) (centre v) (ix3 b i j)) = var fun j => v (ix3 b i j) := by
    unfold mean var
    refine congrArg (Ideal.div · _) (Finset.sum_congr rfl fun j _ => ?_)
    exact congrArg₂ (· * ·) (centre_at v b i j) (centre_at v b i j)
  have c := centre_at v b i j
  pointwise [normOf, spread]
  rw [e, e', c]
  rfl

theorem residualOf_at (x y : FVec Ideal S8x4096x1024 .f32) (b : Fin 8) (i : Fin 4096) (j : Fin 1024) :
    residualOf x y (ix3 b i j) = residual alpha (fun j => x (ix3 b i j)) (fun j => y (ix3 b i j)) j := by
  pointwise [residualOf]
  rw [scale_eq]
  rfl

theorem mix_at (b : Fin 8) (i : Fin 4096) (j : Fin 1024) : mixOf gates f o wf wa wo (ix3 b i j)
    = apply (merged (fun d => gates (ix3 b i ⟨d.val, by omega⟩)) (fun d => gates (ix3 b i ⟨1024 + d.val, by omega⟩))
        (fun e => f (ix3 b i e)) (fun e => o (ix3 b i e)) (fun e d => wf (ix2 e d)) (fun e d => wa (ix2 e d))) (fun d j => wo (ix2 d j)) j := by
  pointwise [mixOf]
  rfl

theorem feed_at (h : FVec Ideal S8x4096x1024 .f32) (b : Fin 8) (i : Fin 4096) (j : Fin 1024) : feedOf wg wu wd h (ix3 b i j)
    = apply (act (fun d => h (ix3 b i d)) (fun d e => wg (ix2 d e)) (fun d e => wu (ix2 d e))) (fun d j => wd (ix2 d j)) j := by
  pointwise [feedOf, gateOf]
  rfl

/-- The weights as the reference takes them. -/
def weightsOf : Weights where
  wf e d := wf (ix2 e d)
  wa e d := wa (ix2 e d)
  wo d j := wo (ix2 d j)
  wg d e := wg (ix2 d e)
  wu d e := wu (ix2 d e)
  wd d j := wd (ix2 d j)
  g1 j := g1 (ix1 j)
  b1 j := b1 (ix1 j)
  g2 j := g2 (ix1 j)
  b2 j := b2 (ix1 j)

/-- The reference's result at an index. -/
theorem result_at (b : Fin 8) (i : Fin 4096) (j : Fin 1024) : result x gates f o wf wa wo g1 b1 wg wu wd g2 b2 (ix3 b i j)
    = row alpha (weightsOf wf wa wo g1 b1 wg wu wd g2 b2) (fun j => x (ix3 b i j)) (fun d => gates (ix3 b i ⟨d.val, by omega⟩))
        (fun d => gates (ix3 b i ⟨1024 + d.val, by omega⟩)) (fun e => f (ix3 b i e)) (fun e => o (ix3 b i e)) j := by
  have h1 : ∀ j, residualOf x (mixOf gates f o wf wa wo) (ix3 b i j) = first alpha (weightsOf wf wa wo g1 b1 wg wu wd g2 b2) (fun j => x (ix3 b i j))
      (fun d => gates (ix3 b i ⟨d.val, by omega⟩)) (fun d => gates (ix3 b i ⟨1024 + d.val, by omega⟩)) (fun e => f (ix3 b i e)) (fun e => o (ix3 b i e)) j :=
    fun j => (residualOf_at _ _ b i j).trans (congrArg (residual alpha _ · j) (funext fun j => mix_at gates f o wf wa wo b i j))
  have h3 : ∀ h j, residualOf h (feedOf wg wu wd h) (ix3 b i j) = second alpha (weightsOf wf wa wo g1 b1 wg wu wd g2 b2) (fun j => h (ix3 b i j)) j :=
    fun h j => (residualOf_at _ _ b i j).trans (congrArg (residual alpha _ · j) (funext fun j => feed_at wg wu wd h b i j))
  refine (normOf_at _ g2 b2 b i j).trans (congrArg (norm · _ _ j) (funext fun j => ?_))
  refine (h3 _ j).trans (congrArg (second alpha _ · j) (funext fun j => ?_))
  exact (normOf_at _ g1 b1 b i j).trans (congrArg (norm · _ _ j) (funext h1))

end Cert.Proof.FfnRef

end
-- ==== Proof.Ffn.Value.lean ====
/-
  The kernel's result is the reference's: every token's row, from the same arrays.
-/
module

public import proofs.«01_k».proof.Proof.Ffn.Out
public import proofs.«01_k».proof.Proof.Ffn.RefValue

@[expose] public section

set_option maxRecDepth 16384

noncomputable section

namespace Cert.Proof.Ffn

open Cert.Kernel2Ideal Cert.Kernel2Ideal.Gen
open Idealize.ShloMosaic Idealize.ShloMosaic.TcCoe

variable (m : (ℓ : Loc nD τ sig) → Buf (Elt Ideal) ℓ) (c : Dev nD)

/-- The block every moving window holds at a grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, t.val % 8]
    ∧ win0_14.index t = ![t.val / 8, t.val % 8, 0] := (by decide +kernel : ∀ t : Fin grid0.N, _)

/-- The other windows hold their whole array at every point. -/
theorem idx0 : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] := (by decide +kernel : ∀ t : Fin grid0.N, _)

/-- The batch of a grid point, and a token of its block among the 4096. -/
def batch (t : Fin cfg0.N) : Fin 8 := ⟨t.val / 8, by have h : t.val < 64 := t.isLt; omega⟩
def token (t : Fin cfg0.N) (i : Fin 512) : Fin 4096 := ⟨512 * (t.val % 8) + i.val, by omega⟩

theorem block0 (t : Fin cfg0.N) (i : Fin 512) (j : Fin 1024) :
    iblk m c 0 t (ix3 0 i j) = V m c main_arg0 (ix3 (batch t) (token t i) j) := by
  blk_ext [iblk, batch, token, idx t]

theorem block1 (t : Fin cfg0.N) (i : Fin 512) (j : Fin 2048) :
    iblk m c 1 t (ix3 0 i j) = V m c main_v10 (ix3 (batch t) (token t i) j) := by
  blk_ext [iblk, batch, token, idx t]

theorem block2 (t : Fin cfg0.N) (i : Fin 512) (j : Fin 512) :
    iblk m c 2 t (ix3 0 i j) = V m c main_v11 (ix3 (batch t) (token t i) j) := by
  blk_ext [iblk, batch, token, idx t]

theorem block3 (t : Fin cfg0.N) (e : Fin 512) (i : Fin 512) :
    iblk m c 3 t (ix3 0 e i) = V m c main_v13 (ix3 (batch t) e (token t i)) := by
  blk_ext [iblk, batch, token, idx t]

theorem block4 (t : Fin cfg0.N) (d : Fin 512) (j : Fin 1024) : iblk m c 4 t (ix2 d j) = V m c main_v0 (ix2 d j) := by
  blk_ext [iblk, idx0 t]
theorem block5 (t : Fin cfg0.N) (d : Fin 512) (j : Fin 1024) : iblk m c 5 t (ix2 d j) = V m c main_v1 (ix2 d j) := by
  blk_ext [iblk, idx0 t]
theorem block6 (t : Fin cfg0.N) (d : Fin 1024) (j : Fin 1024) : iblk m c 6 t (ix2 d j) = V m c main_v2 (ix2 d j) := by
  blk_ext [iblk, idx0 t]
theorem block7 (t : Fin cfg0.N) (d : Fin 1024) (j : Fin 2816) : iblk m c 7 t (ix2 d j) = V m c main_v3 (ix2 d j) := by
  blk_ext [iblk, idx0 t]
theorem block8 (t : Fin cfg0.N) (d : Fin 1024) (j : Fin 2816) : iblk m c 8 t (ix2 d j) = V m c main_v4 (ix2 d j) := by
  blk_ext [iblk, idx0 t]
theorem block9 (t : Fin cfg0.N) (d : Fin 2816) (j : Fin 1024) : iblk m c 9 t (ix2 d j) = V m c main_v5 (ix2 d j) := by
  blk_ext [iblk, idx0 t]
theorem block10 (t : Fin cfg0.N) (j : Fin 1024) : iblk m c 10 t (ix2 0 j) = V m c main_v6 (ix2 0 j) := by
  blk_ext [iblk, idx0 t]
theorem block11 (t : Fin cfg0.N) (j : Fin 1024) : iblk m c 11 t (ix2 0 j) = V m c main_v7 (ix2 0 j) := by
  blk_ext [iblk, idx0 t]
theorem block12 (t : Fin cfg0.N) (j : Fin 1024) : iblk m c 12 t (ix2 0 j) = V m c main_v8 (ix2 0 j) := by
  blk_ext [iblk, idx0 t]
theorem block13 (t : Fin cfg0.N) (j : Fin 1024) : iblk m c 13 t (ix2 0 j) = V m c main_v9 (ix2 0 j) := by
  blk_ext [iblk, idx0 t]

/-- A row of 1024 numbers as a matrix of one row. -/
theorem lift_at (g : FVec Ideal S1024 .f32) (j : Fin 1024) : shapeCast S1x1024 g shapeCasts_S1024_S1x1024 (ix2 0 j) = g (ix1 j) := by
  pointwise

theorem swap_at (o : FVec Ideal S8x4096x512 .f32) (b : Fin 8) (e : Fin 512) (i : Fin 4096) :
    transpose S8x512x4096 [0, 2, 1] o transposes_S8x4096x512_S8x512x4096_0_2_1 (ix3 b e i) = o (ix3 b i e) := by
  pointwise

/-- The weights of a grid point's blocks are the arguments. -/
theorem weights_eq (t : Fin cfg0.N) :
    weightsOf (iblk m c 4 t) (iblk m c 5 t) (iblk m c 6 t) (iblk m c 7 t) (iblk m c 8 t) (iblk m c 9 t) (iblk m c 10 t) (iblk m c 11 t) (iblk m c 12 t) (iblk m c 13 t)
      = FfnRef.weightsOf (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13)) := by
  unfold weightsOf FfnRef.weightsOf
  congr 1
  · funext d j; exact (block4 m c t d j).trans rfl
  · funext d j; exact (block5 m c t d j).trans rfl
  · funext d j; exact (block6 m c t d j).trans rfl
  · funext d j; exact (block7 m c t d j).trans rfl
  · funext d j; exact (block8 m c t d j).trans rfl
  · funext d j; exact (block9 m c t d j).trans rfl
  · funext j; exact (block10 m c t j).trans (lift_at _ j)
  · funext j; exact (block11 m c t j).trans (lift_at _ j)
  · funext j; exact (block12 m c t j).trans (lift_at _ j)
  · funext j; exact (block13 m c t j).trans (lift_at _ j)

/-- The reference's result from the kernel's arguments. -/
def expected : FVec Ideal S8x4096x1024 .f32 :=
  FfnRef.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- The rows of a grid point's blocks are the reference's. -/
theorem row_eq (t : Fin cfg0.N) (i : Fin 512) (j : Fin 1024) :
    blockRow (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) i j
      = expected m c (ix3 (batch t) (token t i) j) := by
  refine Eq.trans ?_ (FfnRef.result_at _ _ _ _ _ _ _ _ _ _ _ _ _ _ (batch t) (token t i) j).symm
  unfold blockRow
  rw [weights_eq m c t]
  congr 1 <;> funext d
  · exact (block0 m c t i d).trans rfl
  · exact (block1 m c t i _).trans rfl
  · exact (block1 m c t i _).trans rfl
  · exact (block2 m c t i d).trans rfl
  · exact (block3 m c t d i).trans (swap_at _ _ _ _)

/-- The output array at the end. -/
theorem final : (dats m 0 c).arrAt 14 cfg0.N = expected m c := by
  refine (dats m 0 c).arrAt_eq_of_covers 14 _ (by decide +kernel) fun t _ y => ?_
  blk_simp
  rw [after0_14]
  refine (out_at _ _ _ _ _ _ _ _ _ _ _ _ _ _ y).trans ((row_eq m c t _ _).trans (congrArg (expected m c) ?_))
  funext a; apply Fin.ext; fin_cases a
  · have h0 : (y 0).val = 0 := by have : (y 0).val < 1 := (y 0).isLt; omega
    show t.val / 8 = win0_14.index t 0 * 1 + 1 * (y 0).val
    rw [(idx t).2.2.2.2, h0]
    show _ = (t.val / 8) * 1 + 1 * 0
    omega
  · show 512 * (t.val % 8) + (y 1).val = win0_14.index t 1 * 512 + 1 * (y 1).val
    rw [(idx t).2.2.2.2]
    show _ = (t.val % 8) * 512 + _
    omega
  · show (y 2).val = win0_14.index t 2 * 1024 + 1 * (y 2).val
    rw [(idx t).2.2.2.2]
    show _ = 0 * 1024 + _
    omega

end Cert.Proof.Ffn

end
-- ==== Proof.Proj.Row.lean ====
/-
  One token's projections, as the call computes them from its laid-out weights: the Fourier branch's two halves, the
  queries, keys and values of every head, and the gates.
-/
module

public import proofs.«01_k».proof.Proof.Ffn.Row

@[expose] public section

set_option maxRecDepth 16384

noncomputable section

namespace Cert.Proof.Proj

open Idealize.ShloMosaic
open Cert.Proof.Ffn (apply)

/-- The root-mean-square normalisation of a row of `cnt` entries, scaled by `g`. -/
def rms {n : ℕ} (cnt : EReal) (v g : Fin n → EReal) (j : Fin n) : EReal :=
  v j * Ideal.rsqrt (Ideal.div (∑ k, v k * v k) cnt + Ideal.ofBits .f32 0x358637BD#32) * g j

/-- The widths the two latents' sums of squares are divided by. -/
def cntQ : EReal := Ideal.ofBits .f32 0x43C00000#32
def cntKV : EReal := Ideal.ofBits .f32 0x43800000#32

/-- The weights as the call takes them. -/
structure Laid where
  wab : Fin 1024 → Fin 1024 → EReal
  wlat : Fin 1024 → Fin 768 → EReal
  wg : Fin 1024 → Fin 2048 → EReal
  gq : Fin 384 → EReal
  gkv : Fin 256 → EReal
  w1 : Fin 768 → Fin 384 → EReal
  wuk : Fin 256 → Fin 1024 → EReal
  wuvt : Fin 512 → Fin 256 → EReal

/-- A token as the call takes it: its row and its rotary tables, for the queries and for the keys. -/
structure Token where
  x : Fin 1024 → EReal
  cq : Fin 32 → EReal
  sq : Fin 32 → EReal
  ck : Fin 128 → EReal
  sk : Fin 128 → EReal

variable (w : Laid) (u : Token)

/-- The normed latent the queries are made of. -/
def latQ : Fin 384 → EReal := rms cntQ (fun j => apply u.x w.wlat ⟨j.val, by omega⟩) w.gq

/-- The normed latent the keys and values are made of. -/
def latKV : Fin 256 → EReal := rms cntKV (fun j => apply u.x w.wlat ⟨384 + j.val, by omega⟩) w.gkv

/-- A row of the unrotated queries. -/
def upQ (i : Fin 768) : EReal := ∑ k, w.w1 i k * latQ w u k

/-- The Fourier branch's row. -/
def abRow (p : Fin 2) (e : Fin 512) : EReal := apply u.x w.wab ⟨512 * p.val + e.val, by omega⟩

/-- The rows the rotary sines multiply. -/
def turned (h : Fin 8) (j : Fin 32) : EReal :=
  if _ : j.val < 16 then 0 - upQ w u ⟨96 * h.val + 80 + j.val, by omega⟩ else upQ w u ⟨96 * h.val + 64 + (j.val - 16), by omega⟩

/-- A head's rotated rows. -/
def rotQ (h : Fin 8) (j : Fin 32) : EReal :=
  upQ w u ⟨96 * h.val + 64 + j.val, by omega⟩ * u.cq j + turned w u h j * u.sq j

/-- A head's queries. -/
def qRow (h : Fin 8) (d : Fin 128) : EReal :=
  if _ : d.val < 64 then upQ w u ⟨96 * h.val + d.val, by omega⟩
  else if _ : d.val < 96 then rotQ w u h ⟨d.val - 64, by omega⟩ else 0

/-- What is added to every head's keys: the rotated part they share, and a one. -/
def shared (l : Fin 128) : EReal :=
  apply u.x w.wlat ⟨640 + l.val, by omega⟩ * u.ck l + apply u.x w.wlat ⟨640 + (l.val + 64) % 128, by omega⟩ * u.sk l
    + if l.val = 96 then 1 else 0

/-- A head's keys. -/
def kRow (h : Fin 8) (l : Fin 128) : EReal := apply (latKV w u) w.wuk ⟨128 * h.val + l.val, by omega⟩ + shared w u l

/-- A head's values. -/
def vRow (h : Fin 8) (e : Fin 80) : EReal :=
  if _ : e.val < 64 then ∑ k, w.wuvt ⟨64 * h.val + e.val, by omega⟩ k * latKV w u k else 1

/-- The gates. -/
def gateRow (j : Fin 2048) : EReal := Ideal.div 1 (1 + Ideal.exp (-apply u.x w.wg j))

end Cert.Proof.Proj

end
-- ==== Proof.Proj.Stage.lean ====
/-
  What the kernel computes for a tile of 512 tokens, each step at an index.
-/
module

public import proofs.«01_k».proof.Proof.Gen.Kernel3Ideal.Value
public import proofs.«01_k».proof.Proof.Proj.Row
public import Idealize.ShloMosaic.Lib.Pipeline.ValueKit

@[expose] public section

set_option maxRecDepth 16384

noncomputable section

namespace Cert.Proof.Proj

open Cert.Kernel3Ideal Cert.Kernel3Ideal.Gen
open Idealize.ShloMosaic Idealize.ShloMosaic.TcCoe
open Cert.Proof.Ffn (apply)

variable (x0 : Vec Ideal S1x512x1024 .f32) (x1 : Vec Ideal S1024x1024 .bf16) (x2 : Vec Ideal S1024x768 .bf16)
  (x3 : Vec Ideal S1024x2048 .bf16) (x4 : Vec Ideal S1x384 .f32) (x5 : Vec Ideal S1x256 .f32) (x6 : Vec Ideal S768x384 .bf16)
  (x7 : Vec Ideal S256x1024 .bf16) (x8 : Vec Ideal S512x256 .bf16) (x9 x10 : Vec Ideal S32x512 .f32) (x11 x12 : Vec Ideal S512x128 .f32)

/-- The weights in the input blocks. -/
def laidOf : Laid where
  wab d e := x1 (ix2 d e)
  wlat d e := x2 (ix2 d e)
  wg d e := x3 (ix2 d e)
  gq j := x4 (ix2 0 j)
  gkv j := x5 (ix2 0 j)
  w1 i k := x6 (ix2 i k)
  wuk k j := x7 (ix2 k j)
  wuvt e k := x8 (ix2 e k)

/-- A token of the input blocks. -/
def tokenOf (r : Fin 512) : Token where
  x d := x0 (ix3 0 r d)
  cq j := x9 (ix2 j r)
  sq j := x10 (ix2 j r)
  ck l := x11 (ix2 r l)
  sk l := x12 (ix2 r l)

/-- The queries' normed latent. -/
def latQOf : FVec Ideal S512x384 .bf16 := k0_pay14 (k0_pay12 x0 x2) (k0_pay13 x0 x2) x4

/-- The keys' and values' normed latent. -/
def latKVOf : FVec Ideal S512x256 .bf16 := k0_pay15 (k0_pay7 x0 x2) x5

/-- The unrotated queries. -/
def upQOf : FVec Ideal S768x512 .f32 := k0_pay29 (latQOf x0 x2 x4) x6

/-- The keys' first part. -/
def upKOf : FVec Ideal S512x1024 .f32 := k0_pay19 (latKVOf x0 x2 x5) x7

/-- What every head's keys get added. -/
def sharedOf : FVec Ideal S512x128 .f32 := k0_pay18 (k0_pay16 (k0_pay7 x0 x2) x11 x12) k0_pay17

/-- The values. -/
def upVOf : FVec Ideal S512x512 .f32 := k0_pay62 (latKVOf x0 x2 x5) x8

theorem lat_at (r : Fin 512) (j : Fin 768) : k0_pay7 (F := Ideal) x0 x2 (ix2 r j) = apply (fun d => x0 (ix3 0 r d)) (fun d e => x2 (ix2 d e)) j := by
  pointwise [k0_pay7, k0_pay6, apply]

theorem ab_at (r : Fin 512) (j : Fin 1024) : k0_pay8 (F := Ideal) x0 x1 (ix2 r j) = apply (fun d => x0 (ix3 0 r d)) (fun d e => x1 (ix2 d e)) j := by
  pointwise [k0_pay8, k0_pay6, apply]

theorem gates_at (r : Fin 512) (j : Fin 2048) : k0_pay11 (F := Ideal) x0 x3 (ix3 0 r j) = gateRow (laidOf x1 x2 x3 x4 x5 x6 x7 x8) (tokenOf x0 x9 x10 x11 x12 r) j := by
  pointwise [k0_pay11, k0_pay6, gateRow, apply]
  rfl

theorem latQ_at (r : Fin 512) (j : Fin 384) : latQOf x0 x2 x4 (ix2 r j) = latQ (laidOf x1 x2 x3 x4 x5 x6 x7 x8) (tokenOf x0 x9 x10 x11 x12 r) j := by
  have e : ∀ j : Fin 384, k0_pay12 (F := Ideal) x0 x2 (ix2 r j)
      = apply (tokenOf x0 x9 x10 x11 x12 r).x (laidOf x1 x2 x3 x4 x5 x6 x7 x8).wlat ⟨j.val, by omega⟩ := fun j => by
    unfold k0_pay12
    pointwise
    exact lat_at x0 x2 r _
  unfold latQOf k0_pay14 k0_pay13
  pointwise
  simp only [e]
  rfl

theorem latKV_at (r : Fin 512) (j : Fin 256) : latKVOf x0 x2 x5 (ix2 r j) = latKV (laidOf x1 x2 x3 x4 x5 x6 x7 x8) (tokenOf x0 x9 x10 x11 x12 r) j := by
  unfold latKVOf k0_pay15
  pointwise
  simp only [lat_at]
  rfl

theorem upQ_at (i : Fin 768) (r : Fin 512) : upQOf x0 x2 x4 x6 (ix2 i r) = upQ (laidOf x1 x2 x3 x4 x5 x6 x7 x8) (tokenOf x0 x9 x10 x11 x12 r) i := by
  unfold upQOf k0_pay29
  pointwise
  exact Finset.sum_congr rfl fun k _ => congrArg (x6 (ix2 i k) * ·) (latQ_at x0 x1 x2 x3 x4 x5 x6 x7 x8 x9 x10 x11 x12 r k)

theorem upK_at (r : Fin 512) (j : Fin 1024) : upKOf x0 x2 x5 x7 (ix2 r j)
    = apply (latKV (laidOf x1 x2 x3 x4 x5 x6 x7 x8) (tokenOf x0 x9 x10 x11 x12 r)) (laidOf x1 x2 x3 x4 x5 x6 x7 x8).wuk j := by
  unfold upKOf k0_pay19
  pointwise
  exact Finset.sum_congr rfl fun k _ => congrArg (· * x7 (ix2 k j)) (latKV_at x0 x1 x2 x3 x4 x5 x6 x7 x8 x9 x10 x11 x12 r k)

theorem upV_at (e : Fin 512) (r : Fin 512) : upVOf x0 x2 x5 x8 (ix2 e r)
    = ∑ k, (laidOf x1 x2 x3 x4 x5 x6 x7 x8).wuvt e k * latKV (laidOf x1 x2 x3 x4 x5 x6 x7 x8) (tokenOf x0 x9 x10 x11 x12 r) k := by
  unfold upVOf k0_pay62
  pointwise
  exact Finset.sum_congr rfl fun k _ => congrArg (x8 (ix2 e k) * ·) (latKV_at x0 x1 x2 x3 x4 x5 x6 x7 x8 x9 x10 x11 x12 r k)

/-- The lane the keys' one stands in. -/
theorem one_lane : ∀ l : Fin 128, (Scalar.select (IntOp.cmpi CmpIPredicate.eq (BitVec.ofNat 32 l.val) 96#32) (1 : EReal) 0)
    = if l.val = 96 then 1 else 0 := by
  intro l
  by_cases h : l.val = 96
  · rw [h, if_pos rfl]; rfl
  · have : IntOp.cmpi CmpIPredicate.eq (BitVec.ofNat 32 l.val) 96#32 = 0#1 := by
      revert h; revert l; decide +kernel
    rw [this, if_neg h]; rfl

theorem shared_at (r : Fin 512) (l : Fin 128) : sharedOf x0 x2 x11 x12 (ix2 r l) = shared (laidOf x1 x2 x3 x4 x5 x6 x7 x8) (tokenOf x0 x9 x10 x11 x12 r) l := by
  have hl : (l.val + 128 - 64) % 128 = (l.val + 64) % 128 := by omega
  unfold sharedOf k0_pay18 k0_pay16 k0_pay17
  pointwise
  simp only [lat_at, hl, one_lane]
  rfl

end Cert.Proof.Proj

end
-- ==== Proof.Proj.Plain.lean ====
/-
  One token's projections written plainly, and that the laid-out weights give the same.
-/
module

public import proofs.«01_k».proof.Proof.Proj.Row
public import proofs.«01_k».proof.Proof.Attn.Math

@[expose] public section

set_option maxRecDepth 16384

noncomputable section

namespace Cert.Proof.Proj

open Idealize.ShloMosaic
open Cert.Proof.Ffn (apply)

/-- The weights as the layer has them. -/
structure Plain where
  win : Fin 1024 → Fin 3232 → EReal
  wab : Fin 1024 → Fin 1024 → EReal
  gq : Fin 384 → EReal
  wuq : Fin 384 → Fin 768 → EReal
  gkv : Fin 256 → EReal
  wukv : Fin 256 → Fin 1024 → EReal

/-- A rotary rotation: the two halves of a row turned by the angles' cosines and sines. -/
def rope (a : Fin 32 → EReal) (cos sin : Fin 16 → EReal) (j : Fin 32) : EReal :=
  if _ : j.val < 16 then a j * cos ⟨j.val, by omega⟩ - a ⟨16 + j.val, by omega⟩ * sin ⟨j.val, by omega⟩
  else a j * cos ⟨j.val - 16, by omega⟩ + a ⟨j.val - 16, by omega⟩ * sin ⟨j.val - 16, by omega⟩

variable (w : Plain) (x : Fin 1024 → EReal) (cos sin : Fin 16 → EReal)

/-- The two normed latents and the rows made of them. -/
def plainLatQ : Fin 384 → EReal := rms cntQ (fun j => apply x w.win ⟨512 + j.val, by omega⟩) w.gq
def plainLatKV : Fin 256 → EReal := rms cntKV (fun j => apply x w.win ⟨896 + j.val, by omega⟩) w.gkv
def plainUpQ : Fin 768 → EReal := apply (plainLatQ w x) w.wuq
def plainUpKV : Fin 1024 → EReal := apply (plainLatKV w x) w.wukv

/-- A head's queries, followed by zeros. -/
def plainQ (h : Fin 8) (d : Fin 128) : EReal :=
  if _ : d.val < 64 then plainUpQ w x ⟨96 * h.val + d.val, by omega⟩
  else if _ : d.val < 96 then rope (fun j => plainUpQ w x ⟨96 * h.val + 64 + j.val, by omega⟩) cos sin ⟨d.val - 64, by omega⟩ else 0

/-- A head's keys, followed by a one and zeros. -/
def plainK (h : Fin 8) (l : Fin 128) : EReal :=
  if _ : l.val < 64 then plainUpKV w x ⟨128 * h.val + l.val, by omega⟩
  else if _ : l.val < 96 then rope (fun j => apply x w.win ⟨1152 + j.val, by omega⟩) cos sin ⟨l.val - 64, by omega⟩
  else if l.val < 97 then 1 else 0

/-- A head's values, followed by ones. -/
def plainV (h : Fin 8) (e : Fin 80) : EReal :=
  if _ : e.val < 64 then plainUpKV w x ⟨128 * h.val + 64 + e.val, by omega⟩ else 1

/-- The gates. -/
def plainGate (j : Fin 2048) : EReal := Ideal.div 1 (1 + Ideal.exp (-apply x w.win ⟨1184 + j.val, by omega⟩))

/-- The latents' weight laid out: the two latents' columns, the rotary key's turned by a quarter, and as they are. -/
def layLat (d : Fin 1024) (j : Fin 768) : EReal :=
  if _ : j.val < 640 then w.win d ⟨512 + j.val, by omega⟩
  else if _ : j.val < 656 then -w.win d ⟨1168 + (j.val - 640), by omega⟩
  else if _ : j.val < 672 then w.win d ⟨1152 + (j.val - 656), by omega⟩
  else if _ : j.val < 704 then 0
  else if _ : j.val < 736 then w.win d ⟨1152 + (j.val - 704), by omega⟩ else 0

/-- The weights laid out as the call takes them. -/
def lay : Laid where
  wab := w.wab
  wlat := layLat w
  wg d j := w.win d ⟨1184 + j.val, by omega⟩
  gq := w.gq
  gkv := w.gkv
  w1 i k := w.wuq k i
  wuk k j := if j.val % 128 < 64 then w.wukv k j else 0
  wuvt e k := w.wukv k ⟨128 * (e.val / 64) + 64 + e.val % 64, by omega⟩

/-- A rotary table's row as the keys take it. -/
def layLanes (t : Fin 16 → EReal) (l : Fin 128) : EReal :=
  if _ : 64 ≤ l.val ∧ l.val < 96 then t ⟨(l.val - 64) % 16, by omega⟩ else 0

/-- A token laid out as the call takes it. -/
def layToken : Token where
  x := x
  cq j := cos ⟨j.val % 16, by omega⟩
  sq j := sin ⟨j.val % 16, by omega⟩
  ck := layLanes cos
  sk := layLanes sin

theorem lat_plain (j : Fin 640) : apply x (layLat w) ⟨j.val, by omega⟩ = apply x w.win ⟨512 + j.val, by omega⟩ := by
  refine Finset.sum_congr rfl fun d _ => congrArg (x d * ·) ?_
  exact dif_pos j.isLt

theorem latQ_plain : latQ (lay w) (layToken x cos sin) = plainLatQ w x := by
  refine congrArg (rms cntQ · w.gq) (funext fun j => ?_)
  exact lat_plain w x ⟨j.val, by omega⟩

theorem latKV_plain : latKV (lay w) (layToken x cos sin) = plainLatKV w x := by
  refine congrArg (rms cntKV · w.gkv) (funext fun j => ?_)
  refine (lat_plain w x ⟨384 + j.val, by omega⟩).trans ?_
  congr 1
  exact Fin.ext (by show 512 + (384 + j.val) = 896 + j.val; omega)

theorem upQ_plain (i : Fin 768) : upQ (lay w) (layToken x cos sin) i = plainUpQ w x i := by
  unfold upQ
  rw [latQ_plain]
  exact Finset.sum_congr rfl fun k _ => mul_comm _ _

theorem q_plain (h : Fin 8) (d : Fin 128) : qRow (lay w) (layToken x cos sin) h d = plainQ w x cos sin h d := by
  unfold qRow plainQ
  split
  · exact upQ_plain w x cos sin _
  split
  · rename_i h0 h1
    unfold rotQ turned rope
    simp only [upQ_plain]
    split
    · rename_i h2
      have h2' : d.val - 64 < 16 := h2
      rw [zero_sub, EReal.neg_mul, ← sub_eq_add_neg]
      congr 2
      · show cos ⟨(d.val - 64) % 16, _⟩ = _
        congr 1; exact Fin.ext (Nat.mod_eq_of_lt h2')
      · congr 1; exact Fin.ext (by show 96 * h.val + 80 + (d.val - 64) = 96 * h.val + 64 + (16 + (d.val - 64)); omega)
      · show sin ⟨(d.val - 64) % 16, _⟩ = _
        congr 1; exact Fin.ext (Nat.mod_eq_of_lt h2')
    · rename_i h2
      have h2' : ¬ d.val - 64 < 16 := h2
      congr 2
      · show cos ⟨(d.val - 64) % 16, _⟩ = _
        congr 1; exact Fin.ext (by show (d.val - 64) % 16 = d.val - 64 - 16; omega)
      · show sin ⟨(d.val - 64) % 16, _⟩ = _
        congr 1; exact Fin.ext (by show (d.val - 64) % 16 = d.val - 64 - 16; omega)
  · rfl

theorem v_plain (h : Fin 8) (e : Fin 80) : vRow (lay w) (layToken x cos sin) h e = plainV w x h e := by
  unfold vRow plainV
  split
  · rename_i h0
    rw [latKV_plain]
    unfold plainUpKV apply
    refine Finset.sum_congr rfl fun k _ => (mul_comm _ _).trans (congrArg (plainLatKV w x k * ·) ?_)
    show w.wukv k _ = w.wukv k _
    congr 1
    exact Fin.ext (by show 128 * ((64 * h.val + e.val) / 64) + 64 + (64 * h.val + e.val) % 64 = 128 * h.val + 64 + e.val; omega)
  · rfl

/-- The rotary key's columns among the laid-out ones. -/
theorem key_plain (j : Fin 32) : apply x (layLat w) ⟨704 + j.val, by omega⟩ = apply x w.win ⟨1152 + j.val, by omega⟩ := by
  refine Finset.sum_congr rfl fun d _ => congrArg (x d * ·) ?_
  unfold layLat
  simp only []
  rw [dif_neg (by omega), dif_neg (by omega), dif_neg (by omega), dif_neg (by omega), dif_pos (by omega)]
  congr 1; exact Fin.ext (by show 1152 + (704 + j.val - 704) = 1152 + j.val; omega)

/-- A sum of products of reals changes its sign with one factor's. -/
theorem sum_neg {n : ℕ} (a b : Fin n → EReal) (ha : ∀ d, ∃ r : ℝ, a d = r) (hb : ∀ d, ∃ r : ℝ, b d = r) :
    ∑ d, a d * -b d = -∑ d, a d * b d := by
  choose a' ha using ha
  choose b' hb using hb
  simp only [ha, hb, ← EReal.coe_neg, Attn.sum_coe_mul]
  congr 1
  simp only [mul_neg, Finset.sum_neg_distrib]

variable (hx : ∀ d, ∃ r : ℝ, x d = r) (hw : ∀ d j, ∃ r : ℝ, w.win d j = r)

include hx hw in
/-- The turned columns: the second half with its sign changed, then the first. -/
theorem turned_plain (j : Fin 32) : apply x (layLat w) ⟨640 + j.val, by omega⟩
    = if _ : j.val < 16 then -apply x w.win ⟨1168 + j.val, by omega⟩ else apply x w.win ⟨1152 + (j.val - 16), by omega⟩ := by
  split
  · refine Eq.trans (Finset.sum_congr rfl fun d _ => congrArg (x d * ·) ?_) (sum_neg x _ hx fun d => hw d _)
    unfold layLat
    simp only []
    rw [dif_neg (by omega), dif_pos (by omega)]
    congr 2; exact Fin.ext (by show 1168 + (640 + j.val - 640) = 1168 + j.val; omega)
  · refine Finset.sum_congr rfl fun d _ => congrArg (x d * ·) ?_
    unfold layLat
    simp only []
    rw [dif_neg (by omega), dif_neg (by omega), dif_pos (by omega)]
    congr 1; exact Fin.ext (by show 1152 + (640 + j.val - 656) = 1152 + (j.val - 16); omega)

/-- A lane outside the rotary ones gets a one or nothing. -/
theorem shared_outside (l : Fin 128) (h : ¬ (64 ≤ l.val ∧ l.val < 96)) :
    shared (lay w) (layToken x cos sin) l = if l.val = 96 then 1 else 0 := by
  have e : ∀ t : Fin 16 → EReal, layLanes t l = 0 := fun t => dif_neg h
  unfold shared
  show _ * layLanes cos l + _ * layLanes sin l + _ = _
  rw [e, e, mul_zero, mul_zero, zero_add, zero_add]

include hx hw in
theorem k_plain (h : Fin 8) (l : Fin 128) : kRow (lay w) (layToken x cos sin) h l = plainK w x cos sin h l := by
  have up : apply (latKV (lay w) (layToken x cos sin)) (lay w).wuk ⟨128 * h.val + l.val, by omega⟩
      = if l.val < 64 then plainUpKV w x ⟨128 * h.val + l.val, by omega⟩ else 0 := by
    have hm : (128 * h.val + l.val) % 128 = l.val := by omega
    rw [latKV_plain]
    split
    · rename_i h0
      unfold plainUpKV apply
      refine Finset.sum_congr rfl fun k _ => congrArg (plainLatKV w x k * ·) ?_
      exact if_pos (by show (128 * h.val + l.val) % 128 < 64; omega)
    · rename_i h0
      refine Finset.sum_eq_zero fun k _ => ?_
      refine (congrArg (plainLatKV w x k * ·) (if_neg ?_)).trans (mul_zero _)
      show ¬ (128 * h.val + l.val) % 128 < 64
      omega
  unfold kRow plainK
  rw [up]
  by_cases h0 : l.val < 64
  · rw [if_pos h0, dif_pos h0, shared_outside w x cos sin l (by omega), if_neg (by omega), add_zero]
  rw [if_neg h0, dif_neg h0, zero_add]
  by_cases h1 : l.val < 96
  · rw [dif_pos h1]
    have e : ∀ t : Fin 16 → EReal, layLanes t l = t ⟨(l.val - 64) % 16, by omega⟩ := fun t => dif_pos ⟨by omega, h1⟩
    unfold shared
    show apply x (layLat w) _ * layLanes cos l + apply x (layLat w) _ * layLanes sin l + _ = _
    rw [if_neg (by omega), add_zero, e, e,
      show (⟨640 + l.val, by omega⟩ : Fin 768) = ⟨704 + (l.val - 64), by omega⟩ from Fin.ext (by show 640 + l.val = 704 + (l.val - 64); omega),
      show (⟨640 + (l.val + 64) % 128, by omega⟩ : Fin 768) = ⟨640 + (l.val - 64), by omega⟩ from
        Fin.ext (by show 640 + (l.val + 64) % 128 = 640 + (l.val - 64); omega),
      key_plain w x ⟨l.val - 64, by omega⟩, turned_plain w x hx hw ⟨l.val - 64, by omega⟩]
    unfold rope
    by_cases h2 : l.val - 64 < 16
    · rw [dif_pos h2, dif_pos h2, EReal.neg_mul, ← sub_eq_add_neg]
      have hm : (l.val - 64) % 16 = l.val - 64 := Nat.mod_eq_of_lt h2
      simp only [hm]
      congr 3
      exact Fin.ext (by show 1168 + (l.val - 64) = 1152 + (16 + (l.val - 64)); omega)
    · rw [dif_neg h2, dif_neg h2]
      have hm : (l.val - 64) % 16 = l.val - 64 - 16 := by omega
      simp only [hm]
  · rw [dif_neg h1, shared_outside w x cos sin l (by omega)]
    by_cases h2 : l.val = 96
    · rw [if_pos h2, if_pos (by omega)]
    · rw [if_neg h2, if_neg (by omega)]

end Cert.Proof.Proj

end
-- ==== Proof.Proj.RefValue.lean ====
/-
  The reference's five results at an index: each value is its token's, from the weights as the layer has them.
-/
module

public import proofs.«01_k».proof.Proof.Gen.Reference3Ideal.Run
public import proofs.«01_k».proof.Proof.Proj.Plain

@[expose] public section

set_option maxRecDepth 16384

noncomputable section

namespace Cert.Proof.ProjRef

open Cert.Reference3Ideal Cert.Reference3Ideal.Gen Cert.Proof.Proj
open Idealize.ShloMosaic Idealize.ShloMosaic.TcCoe
open Cert.Proof.Ffn (apply)

variable (x : FVec Ideal S8x4096x1024 .f32) (win : FVec Ideal S1024x3232 .f32) (wab : FVec Ideal S1024x1024 .f32)
  (gq : FVec Ideal S384 .f32) (wuq : FVec Ideal S384x768 .f32) (gkv : FVec Ideal S256 .f32) (wukv : FVec Ideal S256x1024 .f32)
  (cos sin : FVec Ideal S4096x16 .f32)

/-- The input projection. -/
def projOf : FVec Ideal S8x4096x3232 .f32 := Host.dotGeneral dot_S8x4096x1024_S1024x3232_S8x4096x3232_2_0_01_1_n_n none x win

/-- The queries' latent, and the keys' and values'. -/
def cQOf : FVec Ideal S8x4096x384 .f32 := extractStridedSlice S8x4096x384 ![0, 0, 512] (projOf x win) slices_S8x4096x3232_S8x4096x384_0_0_512
def cKVOf : FVec Ideal S8x4096x256 .f32 := extractStridedSlice S8x4096x256 ![0, 0, 896] (projOf x win) slices_S8x4096x3232_S8x4096x256_0_0_896

/-- The factor a row is normed by. -/
def factorOf (cnt : BitVec 32) (s : FVec Ideal S8x4096 .f32) : FVec Ideal S8x4096x1 .f32 :=
  Host.rsqrt (addf (Host.divf (broadcastInDim S8x4096x1 ![0, 1] bcast_S8x4096_S8x4096x1_0_1 s)
    (broadcastInDim S8x4096x1 ![] bcast_S_S8x4096x1 (constant S_ .f32 cnt))) (broadcastInDim S8x4096x1 ![] bcast_S_S8x4096x1 (constant S_ .f32 0x358637BD#32)))

/-- The normed latents. -/
def latQOf : FVec Ideal S8x4096x384 .f32 :=
  mulf (mulf (cQOf x win) (broadcastInDim S8x4096x384 ![0, 1, 2] bcast_S8x4096x1_S8x4096x384_0_1_2
    (factorOf 0x43C00000#32 (Host.reduceAdd (mulf (cQOf x win) (cQOf x win)) (constant S_ .f32 0x00000000#32) reducesTo_S8x4096x384_S8x4096_d2 h_S_))))
    (broadcastInDim S8x4096x384 ![0, 1, 2] bcast_S1x1x384_S8x4096x384_0_1_2 (broadcastInDim S1x1x384 ![2] bcast_S384_S1x1x384_2 gq))

def latKVOf : FVec Ideal S8x4096x256 .f32 :=
  mulf (mulf (cKVOf x win) (broadcastInDim S8x4096x256 ![0, 1, 2] bcast_S8x4096x1_S8x4096x256_0_1_2
    (factorOf 0x43800000#32 (Host.reduceAdd (mulf (cKVOf x win) (cKVOf x win)) (constant S_ .f32 0x00000000#32) reducesTo_S8x4096x256_S8x4096_d2 h_S_))))
    (broadcastInDim S8x4096x256 ![0, 1, 2] bcast_S1x1x256_S8x4096x256_0_1_2 (broadcastInDim S1x1x256 ![2] bcast_S256_S1x1x256_2 gkv))

/-- What is made of them, by heads. -/
def upQOf : FVec Ideal S8x4096x8x96 .f32 :=
  shapeCast _ (Host.dotGeneral dot_S8x4096x384_S384x768_S8x4096x768_2_0_01_1_n_n none (latQOf x win gq) wuq) shapeCasts_S8x4096x768_S8x4096x8x96

def upKVOf : FVec Ideal S8x4096x8x128 .f32 :=
  shapeCast _ (Host.dotGeneral dot_S8x4096x256_S256x1024_S8x4096x1024_2_0_01_1_n_n none (latKVOf x win gkv) wukv) shapeCasts_S8x4096x1024_S8x4096x8x128

/-- The rotary tables, for every head. -/
def heads (t : FVec Ideal S4096x16 .f32) : FVec Ideal S8x4096x8x16 .f32 :=
  broadcastInDim S8x4096x8x16 ![0, 1, 2, 3] bcast_S1x4096x1x16_S8x4096x8x16_0_1_2_3 (broadcastInDim S1x4096x1x16 ![1, 3] bcast_S4096x16_S1x4096x1x16_1_3 t)

/-- The rotary tables, for the one key the heads share. -/
def single (t : FVec Ideal S4096x16 .f32) : FVec Ideal S8x4096x1x16 .f32 :=
  broadcastInDim S8x4096x1x16 ![0, 1, 2, 3] bcast_S1x4096x1x16_S8x4096x1x16_0_1_2_3 (broadcastInDim S1x4096x1x16 ![1, 3] bcast_S4096x16_S1x4096x1x16_1_3 t)

/-- The queries rotated. -/
def ropeQ (q : FVec Ideal S8x4096x8x32 .f32) : FVec Ideal S8x4096x8x32 .f32 :=
  concatenate S8x4096x8x32 3 [
    ⟨S8x4096x8x16, subf (mulf (extractStridedSlice S8x4096x8x16 ![0, 0, 0, 0] q slices_S8x4096x8x32_S8x4096x8x16_0_0_0_0) (heads cos))
      (mulf (extractStridedSlice S8x4096x8x16 ![0, 0, 0, 16] q slices_S8x4096x8x32_S8x4096x8x16_0_0_0_16) (heads sin))⟩,
    ⟨S8x4096x8x16, addf (mulf (extractStridedSlice S8x4096x8x16 ![0, 0, 0, 16] q slices_S8x4096x8x32_S8x4096x8x16_0_0_0_16) (heads cos))
      (mulf (extractStridedSlice S8x4096x8x16 ![0, 0, 0, 0] q slices_S8x4096x8x32_S8x4096x8x16_0_0_0_0) (heads sin))⟩]
    concatenates_S8x4096x8x16_S8x4096x8x16_S8x4096x8x32_d3

/-- The shared key rotated. -/
def ropeK (k : FVec Ideal S8x4096x1x32 .f32) : FVec Ideal S8x4096x1x32 .f32 :=
  concatenate S8x4096x1x32 3 [
    ⟨S8x4096x1x16, subf (mulf (extractStridedSlice S8x4096x1x16 ![0, 0, 0, 0] k slices_S8x4096x1x32_S8x4096x1x16_0_0_0_0) (single cos))
      (mulf (extractStridedSlice S8x4096x1x16 ![0, 0, 0, 16] k slices_S8x4096x1x32_S8x4096x1x16_0_0_0_16) (single sin))⟩,
    ⟨S8x4096x1x16, addf (mulf (extractStridedSlice S8x4096x1x16 ![0, 0, 0, 16] k slices_S8x4096x1x32_S8x4096x1x16_0_0_0_16) (single cos))
      (mulf (extractStridedSlice S8x4096x1x16 ![0, 0, 0, 0] k slices_S8x4096x1x32_S8x4096x1x16_0_0_0_0) (single sin))⟩]
    concatenates_S8x4096x1x16_S8x4096x1x16_S8x4096x1x32_d3

/-- The key the heads share. -/
def krOf : FVec Ideal S8x4096x1x32 .f32 :=
  broadcastInDim S8x4096x1x32 ![0, 1, 3] bcast_S8x4096x32_S8x4096x1x32_0_1_3
    (extractStridedSlice S8x4096x32 ![0, 0, 1152] (projOf x win) slices_S8x4096x3232_S8x4096x32_0_0_1152)

/-- The five results. -/
def abRef : FVec Ideal S8x2x4096x512 .bf16 :=
  truncf .bf16 (transpose S8x2x4096x512 [0, 2, 1, 3] (shapeCast _ (Host.dotGeneral dot_S8x4096x1024_S1024x1024_S8x4096x1024_2_0_01_1_n_n none x wab)
    shapeCasts_S8x4096x1024_S8x4096x2x512) transposes_S8x4096x2x512_S8x2x4096x512_0_2_1_3) bitsLt_bf16_f32

def qRef : FVec Ideal S8x8x128x4096 .bf16 :=
  truncf .bf16 (transpose S8x8x128x4096 [0, 2, 3, 1] (concatenate S8x4096x8x128 3 [
    ⟨S8x4096x8x64, extractStridedSlice S8x4096x8x64 ![0, 0, 0, 0] (upQOf x win gq wuq) slices_S8x4096x8x96_S8x4096x8x64_0_0_0_0⟩,
    ⟨S8x4096x8x32, ropeQ cos sin (extractStridedSlice S8x4096x8x32 ![0, 0, 0, 64] (upQOf x win gq wuq) slices_S8x4096x8x96_S8x4096x8x32_0_0_0_64)⟩,
    ⟨S8x4096x8x32, broadcastInDim S8x4096x8x32 ![] bcast_S_S8x4096x8x32 (constant S_ .f32 0x00000000#32)⟩]
    concatenates_S8x4096x8x64_S8x4096x8x32_S8x4096x8x32_S8x4096x8x128_d3) transposes_S8x4096x8x128_S8x8x128x4096_0_2_3_1) bitsLt_bf16_f32

def kRef : FVec Ideal S8x8x4096x128 .bf16 :=
  truncf .bf16 (transpose S8x8x4096x128 [0, 2, 1, 3] (concatenate S8x4096x8x128 3 [
    ⟨S8x4096x8x64, extractStridedSlice S8x4096x8x64 ![0, 0, 0, 0] (upKVOf x win gkv wukv) slices_S8x4096x8x128_S8x4096x8x64_0_0_0_0⟩,
    ⟨S8x4096x8x32, broadcastInDim S8x4096x8x32 ![0, 1, 2, 3] bcast_S8x4096x1x32_S8x4096x8x32_0_1_2_3 (ropeK cos sin (krOf x win))⟩,
    ⟨S8x4096x8x1, broadcastInDim S8x4096x8x1 ![] bcast_S_S8x4096x8x1 (constant S_ .f32 0x3F800000#32)⟩,
    ⟨S8x4096x8x31, broadcastInDim S8x4096x8x31 ![] bcast_S_S8x4096x8x31 (constant S_ .f32 0x00000000#32)⟩]
    concatenates_S8x4096x8x64_S8x4096x8x32_S8x4096x8x1_S8x4096x8x31_S8x4096x8x128_d3) transposes_S8x4096x8x128_S8x8x4096x128_0_2_1_3) bitsLt_bf16_f32

def vRef : FVec Ideal S8x8x80x4096 .bf16 :=
  truncf .bf16 (transpose S8x8x80x4096 [0, 2, 3, 1] (concatenate S8x4096x8x80 3 [
    ⟨S8x4096x8x64, extractStridedSlice S8x4096x8x64 ![0, 0, 0, 64] (upKVOf x win gkv wukv) slices_S8x4096x8x128_S8x4096x8x64_0_0_0_64⟩,
    ⟨S8x4096x8x16, broadcastInDim S8x4096x8x16 ![] bcast_S_S8x4096x8x16 (constant S_ .f32 0x3F800000#32)⟩]
    concatenates_S8x4096x8x64_S8x4096x8x16_S8x4096x8x80_d3) transposes_S8x4096x8x80_S8x8x80x4096_0_2_3_1) bitsLt_bf16_f32

def gateRef : FVec Ideal S8x4096x2048 .bf16 :=
  truncf .bf16 (Host.divf (broadcastInDim S8x4096x2048 ![] bcast_S_S8x4096x2048 (constant S_ .f32 0x3F800000#32))
    (addf (broadcastInDim S8x4096x2048 ![] bcast_S_S8x4096x2048 (constant S_ .f32 0x3F800000#32)) (Host.exp (Host.negf
      (extractStridedSlice S8x4096x2048 ![0, 0, 1184] (projOf x win) slices_S8x4096x3232_S8x4096x2048_0_0_1184))))) bitsLt_bf16_f32

/-- The weights as the layer has them. -/
def plainOf : Plain where
  win d j := win (ix2 d j)
  wab d e := wab (ix2 d e)
  gq j := gq (ix1 j)
  wuq k j := wuq (ix2 k j)
  gkv j := gkv (ix1 j)
  wukv k j := wukv (ix2 k j)

theorem proj_at (b : Fin 8) (i : Fin 4096) (j : Fin 3232) :
    projOf x win (ix3 b i j) = apply (fun d => x (ix3 b i d)) (fun d j => win (ix2 d j)) j := by
  pointwise [projOf, apply]

theorem cQ_at (b : Fin 8) (i : Fin 4096) (j : Fin 384) :
    cQOf x win (ix3 b i j) = apply (fun d => x (ix3 b i d)) (fun d j => win (ix2 d j)) ⟨512 + j.val, by omega⟩ := by
  unfold cQOf
  pointwise
  exact proj_at x win b i _

theorem cKV_at (b : Fin 8) (i : Fin 4096) (j : Fin 256) :
    cKVOf x win (ix3 b i j) = apply (fun d => x (ix3 b i d)) (fun d j => win (ix2 d j)) ⟨896 + j.val, by omega⟩ := by
  unfold cKVOf
  pointwise
  exact proj_at x win b i _

theorem latQ_at (b : Fin 8) (i : Fin 4096) (j : Fin 384) :
    latQOf x win gq (ix3 b i j) = plainLatQ (plainOf win wab gq wuq gkv wukv) (fun d => x (ix3 b i d)) j := by
  unfold latQOf factorOf
  pointwise
  simp only [cQ_at]
  rfl

theorem latKV_at (b : Fin 8) (i : Fin 4096) (j : Fin 256) :
    latKVOf x win gkv (ix3 b i j) = plainLatKV (plainOf win wab gq wuq gkv wukv) (fun d => x (ix3 b i d)) j := by
  unfold latKVOf factorOf
  pointwise
  simp only [cKV_at]
  rfl

theorem upQ_at (b : Fin 8) (i : Fin 4096) (h : Fin 8) (d : Fin 96) :
    upQOf x win gq wuq (ix4 b i h d) = plainUpQ (plainOf win wab gq wuq gkv wukv) (fun d => x (ix3 b i d)) ⟨96 * h.val + d.val, by omega⟩ := by
  unfold upQOf
  pointwise
  simp only [latQ_at x win wab gq wuq gkv wukv]
  refine Finset.sum_congr rfl fun k _ => congrArg (_ * ·) (congrArg wuq (congrArg (ix2 k) (Fin.ext ?_)))
  show h.val * 96 + d.val = 96 * h.val + d.val
  omega

theorem upKV_at (b : Fin 8) (i : Fin 4096) (h : Fin 8) (d : Fin 128) :
    upKVOf x win gkv wukv (ix4 b i h d) = plainUpKV (plainOf win wab gq wuq gkv wukv) (fun d => x (ix3 b i d)) ⟨128 * h.val + d.val, by omega⟩ := by
  unfold upKVOf
  pointwise
  simp only [latKV_at x win wab gq wuq gkv wukv]
  refine Finset.sum_congr rfl fun k _ => congrArg (_ * ·) (congrArg wukv (congrArg (ix2 k) (Fin.ext ?_)))
  show h.val * 128 + d.val = 128 * h.val + d.val
  omega

theorem ropeQ_at (q : FVec Ideal S8x4096x8x32 .f32) (b : Fin 8) (i : Fin 4096) (h : Fin 8) (d : Fin 32) :
    ropeQ cos sin q (ix4 b i h d) = rope (fun d => q (ix4 b i h d)) (fun j => cos (ix2 i j)) (fun j => sin (ix2 i j)) d := by
  unfold ropeQ heads rope
  pointwise
  split
  · rfl
  · have hd : 16 + (d.val - 16) = d.val := by omega
    simp only [hd]

theorem ropeK_at (k : FVec Ideal S8x4096x1x32 .f32) (b : Fin 8) (i : Fin 4096) (d : Fin 32) :
    ropeK cos sin k (ix4 b i 0 d) = rope (fun d => k (ix4 b i 0 d)) (fun j => cos (ix2 i j)) (fun j => sin (ix2 i j)) d := by
  unfold ropeK single rope
  pointwise
  split
  · rfl
  · have hd : 16 + (d.val - 16) = d.val := by omega
    simp only [hd]

theorem ab_at (b : Fin 8) (p : Fin 2) (i : Fin 4096) (e : Fin 512) :
    abRef x wab (ix4 b p i e) = apply (fun d => x (ix3 b i d)) (fun d e => wab (ix2 d e)) ⟨512 * p.val + e.val, by omega⟩ := by
  unfold abRef
  pointwise
  refine Finset.sum_congr rfl fun k _ => congrArg (_ * ·) (congrArg wab (congrArg (ix2 k) (Fin.ext ?_)))
  show p.val * 512 + e.val = 512 * p.val + e.val
  omega

theorem gate_at (b : Fin 8) (i : Fin 4096) (j : Fin 2048) :
    gateRef x win (ix3 b i j) = plainGate (plainOf win wab gq wuq gkv wukv) (fun d => x (ix3 b i d)) j := by
  unfold gateRef
  pointwise
  rw [proj_at]
  rfl

theorem v_at (b : Fin 8) (h : Fin 8) (e : Fin 80) (i : Fin 4096) :
    vRef x win gkv wukv (ix4 b h e i) = plainV (plainOf win wab gq wuq gkv wukv) (fun d => x (ix3 b i d)) h e := by
  unfold vRef
  pointwise
  simp only [upKV_at x win wab gq wuq gkv wukv]
  simp only [← Nat.add_assoc]
  rfl

theorem q_at (b : Fin 8) (h : Fin 8) (d : Fin 128) (i : Fin 4096) :
    qRef x win gq wuq cos sin (ix4 b h d i) = plainQ (plainOf win wab gq wuq gkv wukv) (fun d => x (ix3 b i d))
      (fun j => cos (ix2 i j)) (fun j => sin (ix2 i j)) h d := by
  unfold qRef
  pointwise
  simp only [ropeQ_at]
  pointwise
  simp only [upQ_at x win wab gq wuq gkv wukv]
  unfold plainQ
  simp only [← Nat.add_assoc]
  split
  · rfl
  · by_cases h1 : d.val < 96
    · rw [dif_pos (by omega : d.val - 64 < 32), dif_pos h1]
    · rw [dif_neg (by omega : ¬ d.val - 64 < 32), dif_neg h1]

theorem k_at (b : Fin 8) (h : Fin 8) (i : Fin 4096) (l : Fin 128) :
    kRef x win gkv wukv cos sin (ix4 b h i l) = plainK (plainOf win wab gq wuq gkv wukv) (fun d => x (ix3 b i d))
      (fun j => cos (ix2 i j)) (fun j => sin (ix2 i j)) h l := by
  unfold kRef
  pointwise
  simp only [ropeK_at]
  unfold krOf
  pointwise
  simp only [upKV_at x win wab gq wuq gkv wukv, proj_at]
  unfold plainK
  split
  · rfl
  · by_cases h1 : l.val < 96
    · rw [dif_pos (by omega : l.val - 64 < 32), dif_pos h1]
      rfl
    · rw [dif_neg (by omega : ¬ l.val - 64 < 32), dif_neg h1]
      by_cases h2 : l.val < 97
      · rw [dif_pos (by omega : l.val - 64 - 32 < 1), if_pos h2]
      · rw [dif_neg (by omega : ¬ l.val - 64 - 32 < 1), if_neg h2]

end Cert.Proof.ProjRef

end
-- ==== Proof.Proj.Entry.lean ====
/-
  The blocks a grid point of the projections' call reads, and the arrays they are cut from, entry by entry.
-/
module

public import proofs.«01_k».proof.Proof.Proj.Stage
public import proofs.«01_k».proof.Proof.Proj.RefValue

@[expose] public section

set_option maxRecDepth 16384

noncomputable section

namespace Cert.Proof.Proj

open Cert.Kernel3Ideal Cert.Kernel3Ideal.Gen
open Idealize.ShloMosaic Idealize.ShloMosaic.TcCoe

variable (m : (ℓ : Loc nD τ sig) → Buf (Elt Ideal) ℓ) (c : Dev nD)

/-- The block every moving window holds at a grid point. -/
theorem idx : ∀ t : Fin cfg0.N, win0_0.index t = ![t.val / 8, t.val % 8, 0] ∧ win0_9.index t = ![0, t.val % 8] ∧ win0_10.index t = ![0, t.val % 8]
    ∧ win0_11.index t = ![t.val % 8, 0] ∧ win0_12.index t = ![t.val % 8, 0] := (by decide +kernel : ∀ t : Fin grid0.N, _)

/-- The block every output holds at a grid point. -/
theorem idxOut : ∀ t : Fin cfg0.N, win0_13.index t = ![t.val / 8, 0, t.val % 8, 0] ∧ win0_14.index t = ![t.val / 8, 0, 0, t.val % 8]
    ∧ win0_15.index t = ![t.val / 8, 0, t.val % 8, 0] ∧ win0_16.index t = ![t.val / 8, 0, 0, t.val % 8]
    ∧ win0_17.index t = ![t.val / 8, t.val % 8, 0] := (by decide +kernel : ∀ t : Fin grid0.N, _)

/-- The other windows hold their whole array at every point. -/
theorem idx0 : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N, _)

/-- The batch of a grid point, and a token of its block among the 4096. -/
def batch (t : Fin cfg0.N) : Fin 8 := ⟨t.val / 8, by have h : t.val < 64 := t.isLt; omega⟩
def token (t : Fin cfg0.N) (i : Fin 512) : Fin 4096 := ⟨512 * (t.val % 8) + i.val, by omega⟩

theorem block0 (t : Fin cfg0.N) (i : Fin 512) (j : Fin 1024) :
    iblk m c 0 t (ix3 0 i j) = V m c main_arg0 (ix3 (batch t) (token t i) j) := by
  blk_ext [iblk, batch, token, idx t]
theorem block1 (t : Fin cfg0.N) (d : Fin 1024) (j : Fin 1024) : iblk m c 1 t (ix2 d j) = V m c main_v9 (ix2 d j) := by
  blk_ext [iblk, idx0 t]
theorem block2 (t : Fin cfg0.N) (d : Fin 1024) (j : Fin 768) : iblk m c 2 t (ix2 d j) = V m c main_v18 (ix2 d j) := by
  blk_ext [iblk, idx0 t]
theorem block3 (t : Fin cfg0.N) (d : Fin 1024) (j : Fin 2048) : iblk m c 3 t (ix2 d j) = V m c main_v20 (ix2 d j) := by
  blk_ext [iblk, idx0 t]
theorem block4 (t : Fin cfg0.N) (j : Fin 384) : iblk m c 4 t (ix2 0 j) = V m c main_v21 (ix2 0 j) := by
  blk_ext [iblk, idx0 t]
theorem block5 (t : Fin cfg0.N) (j : Fin 256) : iblk m c 5 t (ix2 0 j) = V m c main_v22 (ix2 0 j) := by
  blk_ext [iblk, idx0 t]
theorem block6 (t : Fin cfg0.N) (d : Fin 768) (j : Fin 384) : iblk m c 6 t (ix2 d j) = V m c main_v23 (ix2 d j) := by
  blk_ext [iblk, idx0 t]
theorem block7 (t : Fin cfg0.N) (d : Fin 256) (j : Fin 1024) : iblk m c 7 t (ix2 d j) = V m c main_v24 (ix2 d j) := by
  blk_ext [iblk, idx0 t]
theorem block8 (t : Fin cfg0.N) (d : Fin 512) (j : Fin 256) : iblk m c 8 t (ix2 d j) = V m c main_v25 (ix2 d j) := by
  blk_ext [iblk, idx0 t]
theorem block9 (t : Fin cfg0.N) (j : Fin 32) (i : Fin 512) : iblk m c 9 t (ix2 j i) = V m c main_v28 (ix2 j (token t i)) := by
  blk_ext [iblk, token, idx t]
theorem block10 (t : Fin cfg0.N) (j : Fin 32) (i : Fin 512) : iblk m c 10 t (ix2 j i) = V m c main_v29 (ix2 j (token t i)) := by
  blk_ext [iblk, token, idx t]
theorem block11 (t : Fin cfg0.N) (i : Fin 512) (l : Fin 128) : iblk m c 11 t (ix2 i l) = V m c main_v30 (ix2 (token t i) l) := by
  blk_ext [iblk, token, idx t]
theorem block12 (t : Fin cfg0.N) (i : Fin 512) (l : Fin 128) : iblk m c 12 t (ix2 i l) = V m c main_v31 (ix2 (token t i) l) := by
  blk_ext [iblk, token, idx t]

end Cert.Proof.Proj

end
-- ==== Proof.Proj.Host.lean ====
/-
  The arrays the layer lays out for the projections' call, as the functions of the arguments they are, entry by entry.
-/
module

public import proofs.«01_k».proof.Proof.Proj.Plain
public import proofs.«01_k».proof.Proof.Gen.Kernel3Ideal.Value

@[expose] public section

set_option maxRecDepth 16384

noncomputable section

namespace Cert.Proof.Proj

open Cert.Kernel3Ideal Cert.Kernel3Ideal.Gen
open Idealize.ShloMosaic Idealize.ShloMosaic.TcCoe

variable (win : FVec Ideal S1024x3232 .f32) (wukv : FVec Ideal S256x1024 .f32) (t : FVec Ideal S4096x16 .f32)

/-- The shared rotary columns of the input weight. -/
def rotCols : FVec Ideal S1024x32 .f32 := extractStridedSlice S1024x32 ![0, 1152] win slices_S1024x3232_S1024x32_0_1152

/-- The latents' weight: its queries' and keys' columns, the turned rotary columns, 32 of zeros, the rotary columns, 32 of zeros. -/
def hostLat : FVec Ideal S1024x768 .f32 := concatenate S1024x768 1
  [⟨S1024x640, extractStridedSlice S1024x640 ![0, 512] win slices_S1024x3232_S1024x640_0_512⟩,
   ⟨S1024x32, concatenate S1024x32 1
      [⟨S1024x16, Host.negf (extractStridedSlice S1024x16 ![0, 16] (rotCols win) slices_S1024x32_S1024x16_0_16 : FVec Ideal S1024x16 .f32)⟩,
       ⟨S1024x16, extractStridedSlice S1024x16 ![0, 0] (rotCols win) slices_S1024x32_S1024x16_0_0⟩] concatenates_S1024x16_S1024x16_S1024x32_d1⟩,
   ⟨S1024x32, broadcastInDim S1024x32 ![] bcast_S_S1024x32 (constant S_ .f32 0x00000000#32 : FVec Ideal S_ .f32)⟩,
   ⟨S1024x32, rotCols win⟩,
   ⟨S1024x32, broadcastInDim S1024x32 ![] bcast_S_S1024x32 (constant S_ .f32 0x00000000#32 : FVec Ideal S_ .f32)⟩]
  concatenates_S1024x640_S1024x32_S1024x32_S1024x32_S1024x32_S1024x768_d1

/-- The keys' and values' weight with its heads apart. -/
def headsUkv : FVec Ideal S256x8x128 .f32 := shapeCast S256x8x128 wukv shapeCasts_S256x1024_S256x8x128

/-- The zero the layer pads with. -/
def padZero : FVec Ideal S_ .f32 := sitofp .f32 (constantI S_ 32 0#32)

/-- The keys' weight, each head's 64 columns followed by 64 of zeros. -/
def hostUk : FVec Ideal S256x1024 .f32 := shapeCast S256x1024
  (pad S256x8x128 ![0, 0, 0] ![0, 0, 64] ![0, 0, 0]
    (extractStridedSlice S256x8x64 ![0, 0, 0] (headsUkv wukv) slices_S256x8x128_S256x8x64_0_0_0 : FVec Ideal S256x8x64 .f32) padZero
    pads_S256x8x64_S256x8x128_000_000_0640 h_S_) shapeCasts_S256x8x128_S256x1024

/-- The values' weight, its columns as rows. -/
def hostUv : FVec Ideal S512x256 .f32 := transpose S512x256 [1, 0]
  (shapeCast S256x512 (extractStridedSlice S256x8x64 ![0, 0, 64] (headsUkv wukv) slices_S256x8x128_S256x8x64_0_0_64 : FVec Ideal S256x8x64 .f32)
    shapeCasts_S256x8x64_S256x512 : FVec Ideal S256x512 .f32) transposes_S256x512_S512x256_1_0

/-- A rotary table twice over. -/
def twice : FVec Ideal S4096x32 .f32 :=
  concatenate S4096x32 1 [⟨S4096x16, t⟩, ⟨S4096x16, t⟩] concatenates_S4096x16_S4096x16_S4096x32_d1

/-- A rotary table between 64 lanes of zeros and 32 of them. -/
def lanes : FVec Ideal S4096x128 .f32 :=
  pad S4096x128 ![0, 64] ![0, 32] ![0, 0] (twice t) padZero pads_S4096x32_S4096x128_000_64320 h_S_

theorem padZero_at (y : S_.Idx) : padZero y = (0 : EReal) := by
  show (((0#32 : BitVec 32).toInt : ℝ) : EReal) = 0
  simp

theorem rotCols_at (d : Fin 1024) (j : Fin 32) : rotCols win (ix2 d j) = win (ix2 d ⟨1152 + j.val, by omega⟩) := by
  unfold rotCols
  pointwise

theorem hostLat_at (w : Plain) (hw : w.win = fun d j => win (ix2 d j)) (d : Fin 1024) (j : Fin 768) :
    hostLat win (ix2 d j) = layLat w d j := by
  unfold hostLat layLat
  rw [hw]
  pointwise
  have read : ∀ (a b : ℕ) (ha : a < 3232) (hb : b < 3232), a = b → win (ix2 d ⟨a, ha⟩) = win (ix2 d ⟨b, hb⟩) := by
    intro a b ha hb h; subst h; rfl
  by_cases h0 : j.val < 640
  · rw [dif_pos h0, dif_pos h0]
  · rw [dif_neg h0, dif_neg h0]
    by_cases h1 : j.val < 656
    · rw [dif_pos (by omega : j.val - 640 < 32), dif_pos (by omega : j.val - 640 < 16), dif_pos h1, rotCols_at]
      exact congrArg (fun z : EReal => -z) (read _ _ _ _ (by show 1152 + (16 + (j.val - 640)) = 1168 + (j.val - 640); omega))
    · rw [dif_neg h1]
      by_cases h2 : j.val < 672
      · rw [dif_pos (by omega : j.val - 640 < 32), dif_neg (by omega : ¬ j.val - 640 < 16), dif_pos h2, rotCols_at]
        exact read _ _ _ _ (by show 1152 + (j.val - 640 - 16) = 1152 + (j.val - 656); omega)
      · rw [dif_neg (by omega : ¬ j.val - 640 < 32), dif_neg h2]
        by_cases h3 : j.val < 704
        · rw [dif_pos (by omega : j.val - 640 - 32 < 32), dif_pos h3]
        · rw [dif_neg (by omega : ¬ j.val - 640 - 32 < 32), dif_neg h3]
          by_cases h4 : j.val < 736
          · rw [dif_pos (by omega : j.val - 640 - 32 - 32 < 32), dif_pos h4, rotCols_at]
            exact read _ _ _ _ (by show 1152 + (j.val - 640 - 32 - 32) = 1152 + (j.val - 704); omega)
          · rw [dif_neg (by omega : ¬ j.val - 640 - 32 - 32 < 32), dif_neg h4]

theorem headsUkv_at (k : Fin 256) (h : Fin 8) (e : Fin 128) (j : Fin 1024) (hj : j.val = 128 * h.val + e.val) :
    headsUkv wukv (ix3 k h e) = wukv (ix2 k j) := by
  unfold headsUkv
  pointwise
  exact congrArg (fun a => wukv (ix2 k a)) (Fin.ext (by show h.val * 128 + e.val = j.val; omega))

theorem hostUk_at (k : Fin 256) (j : Fin 1024) :
    hostUk wukv (ix2 k j) = if j.val % 128 < 64 then wukv (ix2 k j) else (0 : EReal) := by
  unfold hostUk
  pointwise
  split_ifs
  · exact headsUkv_at wukv _ _ _ _ (by show j.val = 128 * (j.val / 128) + j.val % 128; omega)
  · omega
  · omega
  · exact padZero_at _

theorem hostUv_at (e : Fin 512) (k : Fin 256) :
    hostUv wukv (ix2 e k) = wukv (ix2 k ⟨128 * (e.val / 64) + 64 + e.val % 64, by omega⟩) := by
  unfold hostUv headsUkv
  pointwise
  exact congrArg (fun a => wukv (ix2 k a)) (Fin.ext (by show e.val / 64 * 128 + (64 + e.val % 64) = 128 * (e.val / 64) + 64 + e.val % 64; omega))

theorem twice_at (i : Fin 4096) (j : Fin 32) : twice t (ix2 i j) = t (ix2 i ⟨j.val % 16, by omega⟩) := by
  unfold twice
  pointwise
  by_cases h : j.val < 16
  · rw [dif_pos h]
    exact congrArg (fun a => t (ix2 i a)) (Fin.ext (by show j.val = j.val % 16; omega))
  · rw [dif_neg h]
    exact congrArg (fun a => t (ix2 i a)) (Fin.ext (by show j.val - 16 = j.val % 16; omega))

theorem lanes_at (i : Fin 4096) (l : Fin 128) : lanes t (ix2 i l) = layLanes (fun j => t (ix2 i j)) l := by
  unfold lanes layLanes
  pointwise
  split_ifs
  · exact twice_at t _ _
  · omega
  · omega
  · exact padZero_at _

variable (m : (ℓ : Loc nD τ sig) → Buf (Elt Ideal) ℓ) (c : Dev nD)

theorem entry1 : V m c main_v9 = (truncf .bf16 (m ((c.tc : Thread nD τ).loc main_arg2) : FVec Ideal S1024x1024 .f32) bitsLt_bf16_f32 : FVec Ideal S1024x1024 .bf16) := by
  rfl
theorem entry2 : V m c main_v18 = (truncf .bf16 (hostLat (m ((c.tc : Thread nD τ).loc main_arg1))) bitsLt_bf16_f32 : FVec Ideal S1024x768 .bf16) := by
  rfl
theorem entry3 : V m c main_v20 = (truncf .bf16 (extractStridedSlice S1024x2048 ![0, 1184] (m ((c.tc : Thread nD τ).loc main_arg1) : FVec Ideal S1024x3232 .f32) slices_S1024x3232_S1024x2048_0_1184 : FVec Ideal S1024x2048 .f32) bitsLt_bf16_f32 : FVec Ideal S1024x2048 .bf16) := by
  rfl
theorem entry4 : V m c main_v21 = (shapeCast S1x384 (m ((c.tc : Thread nD τ).loc main_arg3) : FVec Ideal S384 .f32) shapeCasts_S384_S1x384 : FVec Ideal S1x384 .f32) := by
  rfl
theorem entry5 : V m c main_v22 = (shapeCast S1x256 (m ((c.tc : Thread nD τ).loc main_arg5) : FVec Ideal S256 .f32) shapeCasts_S256_S1x256 : FVec Ideal S1x256 .f32) := by
  rfl
theorem entry6 : V m c main_v23 = (truncf .bf16 (transpose S768x384 [1, 0] (m ((c.tc : Thread nD τ).loc main_arg4) : FVec Ideal S384x768 .f32) transposes_S384x768_S768x384_1_0 : FVec Ideal S768x384 .f32) bitsLt_bf16_f32 : FVec Ideal S768x384 .bf16) := by
  rfl
theorem entry7 : V m c main_v24 = (truncf .bf16 (hostUk (m ((c.tc : Thread nD τ).loc main_arg6))) bitsLt_bf16_f32 : FVec Ideal S256x1024 .bf16) := by
  rfl
theorem entry8 : V m c main_v25 = (truncf .bf16 (hostUv (m ((c.tc : Thread nD τ).loc main_arg6))) bitsLt_bf16_f32 : FVec Ideal S512x256 .bf16) := by
  rfl
theorem entry9 : V m c main_v28 = (transpose S32x4096 [1, 0] (twice (m ((c.tc : Thread nD τ).loc main_arg7))) transposes_S4096x32_S32x4096_1_0 : FVec Ideal S32x4096 .f32) := by
  rfl
theorem entry10 : V m c main_v29 = (transpose S32x4096 [1, 0] (twice (m ((c.tc : Thread nD τ).loc main_arg8))) transposes_S4096x32_S32x4096_1_0 : FVec Ideal S32x4096 .f32) := by
  rfl
theorem entry11 : V m c main_v30 = lanes (m ((c.tc : Thread nD τ).loc main_arg7)) := by
  rfl
theorem entry12 : V m c main_v31 = lanes (m ((c.tc : Thread nD τ).loc main_arg8)) := by
  rfl

end Cert.Proof.Proj

end
-- ==== Proof.Proj.Blocks.lean ====
/-
  A grid point's blocks laid out: the weights and the tokens of the layer, as the layer lays them out.
-/
module

public import proofs.«01_k».proof.Proof.Proj.Entry
public import proofs.«01_k».proof.Proof.Proj.Host

@[expose] public section

set_option maxRecDepth 16384

noncomputable section

namespace Cert.Proof.Proj

open Cert.Kernel3Ideal Cert.Kernel3Ideal.Gen Cert.Proof.ProjRef
open Idealize.ShloMosaic Idealize.ShloMosaic.TcCoe

variable (m : (ℓ : Loc nD τ sig) → Buf (Elt Ideal) ℓ) (c : Dev nD)

/-- The weights of the layer. -/
def weights : Plain := plainOf (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6))

/-- A token's row of the layer's input, and its rows of the rotary tables. -/
def xRow (b : Fin 8) (i : Fin 4096) (d : Fin 1024) : EReal := m ((c.tc : Thread nD τ).loc main_arg0) (ix3 b i d)
def cosRow (i : Fin 4096) (j : Fin 16) : EReal := m ((c.tc : Thread nD τ).loc main_arg7) (ix2 i j)
def sinRow (i : Fin 4096) (j : Fin 16) : EReal := m ((c.tc : Thread nD τ).loc main_arg8) (ix2 i j)

theorem weights_eq (t : Fin cfg0.N) : laidOf (iblk m c 1 t) (iblk m c 2 t) (iblk m c 3 t) (iblk m c 4 t) (iblk m c 5 t)
    (iblk m c 6 t) (iblk m c 7 t) (iblk m c 8 t) = lay (weights m c) := by
  unfold laidOf lay
  congr 1
  · funext d e
    exact (block1 m c t d e).trans (congrFun (entry1 m c) _)
  · funext d e
    exact (block2 m c t d e).trans ((congrFun (entry2 m c) _).trans (hostLat_at _ (weights m c) rfl d e))
  · funext d j
    refine (block3 m c t d j).trans ((congrFun (entry3 m c) _).trans ?_)
    pointwise
    rfl
  · funext j
    refine (block4 m c t j).trans ((congrFun (entry4 m c) _).trans ?_)
    pointwise
    rfl
  · funext j
    refine (block5 m c t j).trans ((congrFun (entry5 m c) _).trans ?_)
    pointwise
    rfl
  · funext i k
    refine (block6 m c t i k).trans ((congrFun (entry6 m c) _).trans ?_)
    pointwise
    rfl
  · funext k j
    exact (block7 m c t k j).trans ((congrFun (entry7 m c) _).trans (hostUk_at _ k j))
  · funext e k
    exact (block8 m c t e k).trans ((congrFun (entry8 m c) _).trans (hostUv_at _ e k))

theorem token_eq (t : Fin cfg0.N) (r : Fin 512) :
    tokenOf (iblk m c 0 t) (iblk m c 9 t) (iblk m c 10 t) (iblk m c 11 t) (iblk m c 12 t) r
      = layToken (xRow m c (batch t) (token t r)) (cosRow m c (token t r)) (sinRow m c (token t r)) := by
  unfold tokenOf layToken
  congr 1
  · funext d
    exact (block0 m c t r d).trans rfl
  · funext j
    refine (block9 m c t j r).trans ((congrFun (entry9 m c) _).trans ?_)
    pointwise
    exact twice_at _ _ _
  · funext j
    refine (block10 m c t j r).trans ((congrFun (entry10 m c) _).trans ?_)
    pointwise
    exact twice_at _ _ _
  · funext l
    exact (block11 m c t r l).trans ((congrFun (entry11 m c) _).trans (lanes_at _ _ l))
  · funext l
    exact (block12 m c t r l).trans ((congrFun (entry12 m c) _).trans (lanes_at _ _ l))

end Cert.Proof.Proj

end
-- ==== Proof.Proj.Out.lean ====
/-
  The five output blocks of a grid point, as lists of the pieces stored into them.
-/
module

public import proofs.«01_k».proof.Proof.Proj.Stage

@[expose] public section

set_option maxRecDepth 16384

noncomputable section

namespace Cert.Proof.Proj

open Cert.Kernel3Ideal Cert.Kernel3Ideal.Gen
open Idealize.ShloMosaic Idealize.ShloMosaic.TcCoe

/-- The places of the output blocks' pieces: a half of the Fourier branch's, -/
def abRect (p : Fin 2) : Rect S1x2x512x512 :=
  Rect.unit ![0, p.val, 0, 0] S1x1x512x512.size ((by decide +kernel : ∀ p : Fin 2, ∀ a, (![0, p.val, 0, 0] : Fin 4 → Nat) a + S1x1x512x512.size a ≤ S1x2x512x512.size a) p)

/-- a head's unrotated queries, -/
def qRect0 (h : Fin 8) : Rect S1x8x128x512 :=
  Rect.unit ![0, h.val, 0, 0] S1x1x64x512.size ((by decide +kernel : ∀ h : Fin 8, ∀ a, (![0, h.val, 0, 0] : Fin 4 → Nat) a + S1x1x64x512.size a ≤ S1x8x128x512.size a) h)

/-- its rotated ones -/
def qRect1 (h : Fin 8) : Rect S1x8x128x512 :=
  Rect.unit ![0, h.val, 64, 0] S1x1x32x512.size ((by decide +kernel : ∀ h : Fin 8, ∀ a, (![0, h.val, 64, 0] : Fin 4 → Nat) a + S1x1x32x512.size a ≤ S1x8x128x512.size a) h)

/-- and the zeros after them, -/
def qRect2 (h : Fin 8) : Rect S1x8x128x512 :=
  Rect.unit ![0, h.val, 96, 0] S1x1x32x512.size ((by decide +kernel : ∀ h : Fin 8, ∀ a, (![0, h.val, 96, 0] : Fin 4 → Nat) a + S1x1x32x512.size a ≤ S1x8x128x512.size a) h)

/-- a head's keys, -/
def kRect (h : Fin 8) : Rect S1x8x512x128 :=
  Rect.unit ![0, h.val, 0, 0] S1x1x512x128.size ((by decide +kernel : ∀ h : Fin 8, ∀ a, (![0, h.val, 0, 0] : Fin 4 → Nat) a + S1x1x512x128.size a ≤ S1x8x512x128.size a) h)

/-- a head's values -/
def vRect0 (h : Fin 8) : Rect S1x8x80x512 :=
  Rect.unit ![0, h.val, 0, 0] S1x1x64x512.size ((by decide +kernel : ∀ h : Fin 8, ∀ a, (![0, h.val, 0, 0] : Fin 4 → Nat) a + S1x1x64x512.size a ≤ S1x8x80x512.size a) h)

/-- and the ones after them. -/
def vRect1 (h : Fin 8) : Rect S1x8x80x512 :=
  Rect.unit ![0, h.val, 64, 0] S1x1x16x512.size ((by decide +kernel : ∀ h : Fin 8, ∀ a, (![0, h.val, 64, 0] : Fin 4 → Nat) a + S1x1x16x512.size a ≤ S1x8x80x512.size a) h)

theorem abSlice : ∀ p : Fin 2, S512x1024.Slices ![0, 512 * p.val] S512x512 := by decide +kernel
theorem kSlice : ∀ h : Fin 8, S512x1024.Slices ![0, 128 * h.val] S512x128 := by decide +kernel
theorem qSlice0 : ∀ h : Fin 8, S768x512.Slices ![96 * h.val, 0] S64x512 := by decide +kernel
theorem qSlice1 : ∀ h : Fin 8, S768x512.Slices ![96 * h.val + 64, 0] S32x512 := by decide +kernel
theorem qSliceL : ∀ h : Fin 8, S768x512.Slices ![96 * h.val + 64, 0] S16x512 := by decide +kernel
theorem qSliceR : ∀ h : Fin 8, S768x512.Slices ![96 * h.val + 80, 0] S16x512 := by decide +kernel
theorem vSlice : ∀ h : Fin 8, S512x512.Slices ![64 * h.val, 0] S64x512 := by decide +kernel

/-- What is stored in them. -/
def abPiece (ab : FVec Ideal S512x1024 .f32) (p : Fin 2) : FVec Ideal S1x1x512x512 .bf16 :=
  shapeCast S1x1x512x512 (truncf .bf16 (extractStridedSlice S512x512 ![0, 512 * p.val] ab (abSlice p)) bitsLt_bf16_f32) shapeCasts_S512x512_S1x1x512x512

def qPiece0 (q : FVec Ideal S768x512 .f32) (h : Fin 8) : FVec Ideal S1x1x64x512 .bf16 :=
  shapeCast S1x1x64x512 (truncf .bf16 (extractStridedSlice S64x512 ![96 * h.val, 0] q (qSlice0 h)) bitsLt_bf16_f32) shapeCasts_S64x512_S1x1x64x512

/-- The rows the rotary sines multiply. -/
def turnedOf (q : FVec Ideal S768x512 .f32) (h : Fin 8) : FVec Ideal S32x512 .f32 :=
  concatenate S32x512 0 [⟨S16x512, subf (broadcast S16x512 (Scalar.ofBits .f32 0x00000000#32)) (extractStridedSlice S16x512 ![96 * h.val + 80, 0] q (qSliceR h))⟩,
    ⟨S16x512, extractStridedSlice S16x512 ![96 * h.val + 64, 0] q (qSliceL h)⟩] concatenates_S16x512_S16x512_S32x512_d0

def qPiece1 (q : FVec Ideal S768x512 .f32) (cos sin : FVec Ideal S32x512 .f32) (h : Fin 8) : FVec Ideal S1x1x32x512 .bf16 :=
  shapeCast S1x1x32x512 (truncf .bf16 (addf (mulf (extractStridedSlice S32x512 ![96 * h.val + 64, 0] q (qSlice1 h)) (k0_pay30 cos))
    (mulf (turnedOf q h) (k0_pay31 sin))) bitsLt_bf16_f32) shapeCasts_S32x512_S1x1x32x512

def kPiece (kn : FVec Ideal S512x1024 .f32) (s : FVec Ideal S512x128 .f32) (h : Fin 8) : FVec Ideal S1x1x512x128 .bf16 :=
  shapeCast S1x1x512x128 (truncf .bf16 (addf (extractStridedSlice S512x128 ![0, 128 * h.val] kn (kSlice h)) s) bitsLt_bf16_f32) shapeCasts_S512x128_S1x1x512x128

def vPiece0 (v : FVec Ideal S512x512 .f32) (h : Fin 8) : FVec Ideal S1x1x64x512 .bf16 :=
  shapeCast S1x1x64x512 (truncf .bf16 (extractStridedSlice S64x512 ![64 * h.val, 0] v (vSlice h)) bitsLt_bf16_f32) shapeCasts_S64x512_S1x1x64x512

/-- The heads, the last stored first. -/
abbrev heads : List (Fin 8) := [7, 6, 5, 4, 3, 2, 1, 0]

variable (c : Dev nD) (i : grid0.Coords) (arg2 : Memref sig .tc .vmem S1x512x1024 .f32) (harg2 : arg2.IsWhole)
  (arg3 : Memref sig .tc .vmem S1024x1024 .bf16) (harg3 : arg3.IsWhole) (arg4 : Memref sig .tc .vmem S1024x768 .bf16)
  (harg4 : arg4.IsWhole) (arg5 : Memref sig .tc .vmem S1024x2048 .bf16) (harg5 : arg5.IsWhole)
  (arg6 : Memref sig .tc .vmem S1x384 .f32) (harg6 : arg6.IsWhole) (arg7 : Memref sig .tc .vmem S1x256 .f32) (harg7 : arg7.IsWhole)
  (arg8 : Memref sig .tc .vmem S768x384 .bf16) (harg8 : arg8.IsWhole) (arg9 : Memref sig .tc .vmem S256x1024 .bf16)
  (harg9 : arg9.IsWhole) (arg10 : Memref sig .tc .vmem S512x256 .bf16) (harg10 : arg10.IsWhole)
  (arg11 : Memref sig .tc .vmem S32x512 .f32) (harg11 : arg11.IsWhole) (arg12 : Memref sig .tc .vmem S32x512 .f32)
  (harg12 : arg12.IsWhole) (arg13 : Memref sig .tc .vmem S512x128 .f32) (harg13 : arg13.IsWhole)
  (arg14 : Memref sig .tc .vmem S512x128 .f32) (harg14 : arg14.IsWhole) (arg15 : Memref sig .tc .vmem S1x2x512x512 .bf16)
  (harg15 : arg15.IsWhole) (arg16 : Memref sig .tc .vmem S1x8x128x512 .bf16) (harg16 : arg16.IsWhole)
  (arg17 : Memref sig .tc .vmem S1x8x512x128 .bf16) (harg17 : arg17.IsWhole) (arg18 : Memref sig .tc .vmem S1x8x80x512 .bf16)
  (harg18 : arg18.IsWhole) (arg19 : Memref sig .tc .vmem S1x512x2048 .bf16) (harg19 : arg19.IsWhole)
variable (x0 : Vec Ideal S1x512x1024 .f32) (x1 : Vec Ideal S1024x1024 .bf16) (x2 : Vec Ideal S1024x768 .bf16)
  (x3 : Vec Ideal S1024x2048 .bf16) (x4 : Vec Ideal S1x384 .f32) (x5 : Vec Ideal S1x256 .f32) (x6 : Vec Ideal S768x384 .bf16)
  (x7 : Vec Ideal S256x1024 .bf16) (x8 : Vec Ideal S512x256 .bf16) (x9 x10 : Vec Ideal S32x512 .f32) (x11 x12 : Vec Ideal S512x128 .f32)

theorem out13_eq : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    = View.canon (Val := Elt Ideal) ([1, 0].map fun p => ⟨abRect p, abPiece (k0_pay8 x0 x1) p⟩) := by
  frame_out
  rfl

theorem out14_eq : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    = View.canon (Val := Elt Ideal) (heads.flatMap fun h => [⟨qRect2 h, k0_pay34 (F := Ideal)⟩, ⟨qRect1 h, qPiece1 (upQOf x0 x2 x4 x6) x9 x10 h⟩,
        ⟨qRect0 h, qPiece0 (upQOf x0 x2 x4 x6) h⟩]) := by
  frame_out
  rfl

theorem out15_eq : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    = View.canon (Val := Elt Ideal) (heads.map fun h => ⟨kRect h, kPiece (upKOf x0 x2 x5 x7) (sharedOf x0 x2 x11 x12) h⟩) := by
  frame_out
  rfl

theorem out16_eq : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    = View.canon (Val := Elt Ideal) (heads.flatMap fun h => [⟨vRect1 h, k0_pay64 (F := Ideal)⟩, ⟨vRect0 h, vPiece0 (upVOf x0 x2 x5 x8) h⟩]) := by
  frame_out
  rfl

theorem out17_eq : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    = k0_pay11 x0 x3 := by
  frame_out

end Cert.Proof.Proj

end
-- ==== Proof.Proj.OutAt.lean ====
/-
  The five output blocks of a grid point at an index: each value is its token's.
-/
module

public import proofs.«01_k».proof.Proof.Proj.Out

@[expose] public section

set_option maxRecDepth 16384

noncomputable section

namespace Cert.Proof.Proj

open Cert.Kernel3Ideal Cert.Kernel3Ideal.Gen
open Idealize.ShloMosaic Idealize.ShloMosaic.TcCoe
open Cert.Proof.Ffn (apply)

/-- An index of a piece is given by its last two coordinates. -/
theorem split4 {p q : ℕ} (x : (⟨4, ![1, 1, p, q]⟩ : Shape).Idx) : x = ix4 (0 : Fin 1) (0 : Fin 1) (x 2) (x 3) := by
  funext a
  fin_cases a
  · exact Subsingleton.elim (α := Fin 1) _ _
  · exact Subsingleton.elim (α := Fin 1) _ _
  · rfl
  · rfl

/-- Where an entry of a piece stands in the block, for a piece of one row of the second axis from `o` of the third on. -/
theorem place4 {n k p q : ℕ} (h : Fin n) (o : ℕ) (hb : ∀ a, (![0, h.val, o, 0] : Fin 4 → Nat) a + (![1, 1, p, q] : Fin 4 → Nat) a ≤ (![1, n, k, q] : Fin 4 → Nat) a)
    (a : Fin p) (r : Fin q) (ha : o + a.val < k) :
    (Rect.unit (s := ⟨4, ![1, n, k, q]⟩) ![0, h.val, o, 0] ![1, 1, p, q] hb).emb (ix4 (0 : Fin 1) (0 : Fin 1) a r) = ix4 (0 : Fin 1) h (⟨o + a.val, ha⟩ : Fin k) r := by
  funext i
  apply Fin.ext
  fin_cases i
  · rfl
  · show h.val + 1 * 0 = h.val; omega
  · show o + 1 * a.val = o + a.val; omega
  · show 0 + 1 * r.val = r.val; omega

theorem abPiece_at (ab : FVec Ideal S512x1024 .f32) (p : Fin 2) (r e : Fin 512) :
    abPiece ab p (ix4 0 0 r e) = ab (ix2 r ⟨512 * p.val + e.val, by omega⟩) := by
  pointwise [abPiece]

theorem kPiece_at (kn : FVec Ideal S512x1024 .f32) (s : FVec Ideal S512x128 .f32) (h : Fin 8) (r : Fin 512) (l : Fin 128) :
    kPiece kn s h (ix4 0 0 r l) = kn (ix2 r ⟨128 * h.val + l.val, by omega⟩) + s (ix2 r l) := by
  pointwise [kPiece]

theorem qPiece0_at (q : FVec Ideal S768x512 .f32) (h : Fin 8) (a : Fin 64) (r : Fin 512) :
    qPiece0 q h (ix4 0 0 a r) = q (ix2 ⟨96 * h.val + a.val, by omega⟩ r) := by
  pointwise [qPiece0]

theorem turnedOf_at (q : FVec Ideal S768x512 .f32) (h : Fin 8) (a : Fin 32) (r : Fin 512) :
    turnedOf q h (ix2 a r) = if _ : a.val < 16 then 0 - q (ix2 ⟨96 * h.val + 80 + a.val, by omega⟩ r)
      else q (ix2 ⟨96 * h.val + 64 + (a.val - 16), by omega⟩ r) := by
  pointwise [turnedOf]

theorem qPiece1_at (q : FVec Ideal S768x512 .f32) (cos sin : FVec Ideal S32x512 .f32) (h : Fin 8) (a : Fin 32) (r : Fin 512) :
    qPiece1 q cos sin h (ix4 0 0 a r)
      = q (ix2 ⟨96 * h.val + 64 + a.val, by omega⟩ r) * cos (ix2 a r) + turnedOf q h (ix2 a r) * sin (ix2 a r) := by
  pointwise [qPiece1, k0_pay30, k0_pay31]

theorem qPiece2_at (a : Fin 32) (r : Fin 512) : k0_pay34 (F := Ideal) (ix4 0 0 a r) = 0 := by
  pointwise [k0_pay34]

theorem vPiece0_at (v : FVec Ideal S512x512 .f32) (h : Fin 8) (a : Fin 64) (r : Fin 512) :
    vPiece0 v h (ix4 0 0 a r) = v (ix2 ⟨64 * h.val + a.val, by omega⟩ r) := by
  pointwise [vPiece0]

theorem vPiece1_at (a : Fin 16) (r : Fin 512) : k0_pay64 (F := Ideal) (ix4 0 0 a r) = 1 := by
  pointwise [k0_pay64]

variable (c : Dev nD) (i : grid0.Coords) (arg2 : Memref sig .tc .vmem S1x512x1024 .f32) (harg2 : arg2.IsWhole)
  (arg3 : Memref sig .tc .vmem S1024x1024 .bf16) (harg3 : arg3.IsWhole) (arg4 : Memref sig .tc .vmem S1024x768 .bf16)
  (harg4 : arg4.IsWhole) (arg5 : Memref sig .tc .vmem S1024x2048 .bf16) (harg5 : arg5.IsWhole)
  (arg6 : Memref sig .tc .vmem S1x384 .f32) (harg6 : arg6.IsWhole) (arg7 : Memref sig .tc .vmem S1x256 .f32) (harg7 : arg7.IsWhole)
  (arg8 : Memref sig .tc .vmem S768x384 .bf16) (harg8 : arg8.IsWhole) (arg9 : Memref sig .tc .vmem S256x1024 .bf16)
  (harg9 : arg9.IsWhole) (arg10 : Memref sig .tc .vmem S512x256 .bf16) (harg10 : arg10.IsWhole)
  (arg11 : Memref sig .tc .vmem S32x512 .f32) (harg11 : arg11.IsWhole) (arg12 : Memref sig .tc .vmem S32x512 .f32)
  (harg12 : arg12.IsWhole) (arg13 : Memref sig .tc .vmem S512x128 .f32) (harg13 : arg13.IsWhole)
  (arg14 : Memref sig .tc .vmem S512x128 .f32) (harg14 : arg14.IsWhole) (arg15 : Memref sig .tc .vmem S1x2x512x512 .bf16)
  (harg15 : arg15.IsWhole) (arg16 : Memref sig .tc .vmem S1x8x128x512 .bf16) (harg16 : arg16.IsWhole)
  (arg17 : Memref sig .tc .vmem S1x8x512x128 .bf16) (harg17 : arg17.IsWhole) (arg18 : Memref sig .tc .vmem S1x8x80x512 .bf16)
  (harg18 : arg18.IsWhole) (arg19 : Memref sig .tc .vmem S1x512x2048 .bf16) (harg19 : arg19.IsWhole)
variable (x0 : Vec Ideal S1x512x1024 .f32) (x1 : Vec Ideal S1024x1024 .bf16) (x2 : Vec Ideal S1024x768 .bf16)
  (x3 : Vec Ideal S1024x2048 .bf16) (x4 : Vec Ideal S1x384 .f32) (x5 : Vec Ideal S1x256 .f32) (x6 : Vec Ideal S768x384 .bf16)
  (x7 : Vec Ideal S256x1024 .bf16) (x8 : Vec Ideal S512x256 .bf16) (x9 x10 : Vec Ideal S32x512 .f32) (x11 x12 : Vec Ideal S512x128 .f32)

theorem out13_at (y : S1x2x512x512.Idx) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 y
    = abRow (laidOf x1 x2 x3 x4 x5 x6 x7 x8) (tokenOf x0 x9 x10 x11 x12 (y 2)) (y 1) (y 3) := by
  rw [out13_eq]
  refine View.canon_apply_of_pieces (Val := Elt Ideal) (e := EltTy.bf16) (fun y : S1x2x512x512.Idx => abRow (laidOf x1 x2 x3 x4 x5 x6 x7 x8) (tokenOf x0 x9 x10 x11 x12 (y 2)) (y 1) (y 3)) _ ?_ y
    (View.cover_of_tiledBy _ ![1, 1, 512, 512] (by sl_kernel_rfl) y)
  intro p hp
  obtain ⟨p, -, rfl⟩ := List.mem_map.1 hp
  intro x
  obtain ⟨a, r, rfl⟩ : ∃ a r, x = ix4 0 0 a r := ⟨_, _, split4 x⟩
  refine (abPiece_at _ p a r).trans ((ab_at x0 x1 a _).trans ?_)
  show _ = (fun y : S1x2x512x512.Idx => abRow (laidOf x1 x2 x3 x4 x5 x6 x7 x8) (tokenOf x0 x9 x10 x11 x12 (y 2)) (y 1) (y 3)) ((abRect p).emb (ix4 0 0 a r))
  rw [show (abRect p).emb (ix4 0 0 a r) = ix4 0 p ⟨0 + a.val, by omega⟩ r from place4 p 0 _ a r _]
  rw [show (⟨0 + a.val, by omega⟩ : Fin 512) = a from Fin.ext (by simp)]
  rfl

theorem out14_at (y : S1x8x128x512.Idx) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 y
    = qRow (laidOf x1 x2 x3 x4 x5 x6 x7 x8) (tokenOf x0 x9 x10 x11 x12 (y 3)) (y 1) (y 2) := by
  rw [out14_eq]
  refine View.canon_apply_of_pieces (Val := Elt Ideal) (e := EltTy.bf16) (fun y : S1x8x128x512.Idx => qRow (laidOf x1 x2 x3 x4 x5 x6 x7 x8) (tokenOf x0 x9 x10 x11 x12 (y 3)) (y 1) (y 2)) _ ?_ y
    (View.cover_of_tiledBy _ ![1, 1, 32, 512] (by sl_kernel_rfl) y)
  intro p hp
  obtain ⟨h, -, hp⟩ := List.mem_flatMap.1 hp
  have hu : ∀ i r, upQOf x0 x2 x4 x6 (ix2 i r) = upQ (laidOf x1 x2 x3 x4 x5 x6 x7 x8) (tokenOf x0 x9 x10 x11 x12 r) i :=
    upQ_at x0 x1 x2 x3 x4 x5 x6 x7 x8 x9 x10 x11 x12
  rcases List.mem_cons.1 hp with rfl | hp
  · intro x
    obtain ⟨a, r, rfl⟩ : ∃ a r, x = ix4 0 0 a r := ⟨_, _, split4 x⟩
    refine (qPiece2_at a r).trans ?_
    show _ = (fun y : S1x8x128x512.Idx => qRow (laidOf x1 x2 x3 x4 x5 x6 x7 x8) (tokenOf x0 x9 x10 x11 x12 (y 3)) (y 1) (y 2)) ((qRect2 h).emb (ix4 0 0 a r))
    rw [show (qRect2 h).emb (ix4 0 0 a r) = ix4 0 h ⟨96 + a.val, by omega⟩ r from place4 h 96 _ a r _]
    show _ = qRow (laidOf x1 x2 x3 x4 x5 x6 x7 x8) (tokenOf x0 x9 x10 x11 x12 r) h ⟨96 + a.val, by omega⟩
    unfold qRow
    rw [dif_neg (by show ¬ (96 + a.val < 64); omega), dif_neg (by show ¬ (96 + a.val < 96); omega)]
  rcases List.mem_cons.1 hp with rfl | hp
  · intro x
    obtain ⟨a, r, rfl⟩ : ∃ a r, x = ix4 0 0 a r := ⟨_, _, split4 x⟩
    refine (qPiece1_at _ _ _ h a r).trans ?_
    show _ = (fun y : S1x8x128x512.Idx => qRow (laidOf x1 x2 x3 x4 x5 x6 x7 x8) (tokenOf x0 x9 x10 x11 x12 (y 3)) (y 1) (y 2)) ((qRect1 h).emb (ix4 0 0 a r))
    rw [show (qRect1 h).emb (ix4 0 0 a r) = ix4 0 h ⟨64 + a.val, by omega⟩ r from place4 h 64 _ a r _]
    show _ = qRow (laidOf x1 x2 x3 x4 x5 x6 x7 x8) (tokenOf x0 x9 x10 x11 x12 r) h ⟨64 + a.val, by omega⟩
    unfold qRow
    rw [dif_neg (by show ¬ (64 + a.val < 64); omega), dif_pos (by show 64 + a.val < 96; omega)]
    rw [show (⟨64 + a.val - 64, by omega⟩ : Fin 32) = a from Fin.ext (by show 64 + a.val - 64 = a.val; omega)]
    rw [turnedOf_at]
    simp only [hu]
    rfl
  · obtain rfl := List.mem_singleton.1 hp
    intro x
    obtain ⟨a, r, rfl⟩ : ∃ a r, x = ix4 0 0 a r := ⟨_, _, split4 x⟩
    refine (qPiece0_at _ h a r).trans ((hu _ r).trans ?_)
    show _ = (fun y : S1x8x128x512.Idx => qRow (laidOf x1 x2 x3 x4 x5 x6 x7 x8) (tokenOf x0 x9 x10 x11 x12 (y 3)) (y 1) (y 2)) ((qRect0 h).emb (ix4 0 0 a r))
    rw [show (qRect0 h).emb (ix4 0 0 a r) = ix4 0 h ⟨0 + a.val, by omega⟩ r from place4 h 0 _ a r _]
    show _ = qRow (laidOf x1 x2 x3 x4 x5 x6 x7 x8) (tokenOf x0 x9 x10 x11 x12 r) h ⟨0 + a.val, by omega⟩
    unfold qRow
    rw [dif_pos (by show 0 + a.val < 64; omega)]
    congr 1
    exact Fin.ext (by show 96 * h.val + a.val = 96 * h.val + (0 + a.val); omega)

theorem out15_at (y : S1x8x512x128.Idx) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 y
    = kRow (laidOf x1 x2 x3 x4 x5 x6 x7 x8) (tokenOf x0 x9 x10 x11 x12 (y 2)) (y 1) (y 3) := by
  rw [out15_eq]
  refine View.canon_apply_of_pieces (Val := Elt Ideal) (e := EltTy.bf16) (fun y : S1x8x512x128.Idx => kRow (laidOf x1 x2 x3 x4 x5 x6 x7 x8) (tokenOf x0 x9 x10 x11 x12 (y 2)) (y 1) (y 3)) _ ?_ y
    (View.cover_of_tiledBy _ ![1, 1, 512, 128] (by sl_kernel_rfl) y)
  intro p hp
  obtain ⟨h, -, rfl⟩ := List.mem_map.1 hp
  intro x
  obtain ⟨a, r, rfl⟩ : ∃ a r, x = ix4 0 0 a r := ⟨_, _, split4 x⟩
  refine (kPiece_at _ _ h a r).trans ?_
  rw [upK_at x0 x1 x2 x3 x4 x5 x6 x7 x8 x9 x10 x11 x12, shared_at x0 x1 x2 x3 x4 x5 x6 x7 x8 x9 x10 x11 x12]
  show _ = (fun y : S1x8x512x128.Idx => kRow (laidOf x1 x2 x3 x4 x5 x6 x7 x8) (tokenOf x0 x9 x10 x11 x12 (y 2)) (y 1) (y 3)) ((kRect h).emb (ix4 0 0 a r))
  rw [show (kRect h).emb (ix4 0 0 a r) = ix4 0 h ⟨0 + a.val, by omega⟩ r from place4 h 0 _ a r _]
  rw [show (⟨0 + a.val, by omega⟩ : Fin 512) = a from Fin.ext (by simp)]
  rfl

theorem out16_at (y : S1x8x80x512.Idx) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 y
    = vRow (laidOf x1 x2 x3 x4 x5 x6 x7 x8) (tokenOf x0 x9 x10 x11 x12 (y 3)) (y 1) (y 2) := by
  rw [out16_eq]
  refine View.canon_apply_of_pieces (Val := Elt Ideal) (e := EltTy.bf16) (fun y : S1x8x80x512.Idx => vRow (laidOf x1 x2 x3 x4 x5 x6 x7 x8) (tokenOf x0 x9 x10 x11 x12 (y 3)) (y 1) (y 2)) _ ?_ y
    (View.cover_of_tiledBy _ ![1, 1, 16, 512] (by sl_kernel_rfl) y)
  intro p hp
  obtain ⟨h, -, hp⟩ := List.mem_flatMap.1 hp
  rcases List.mem_cons.1 hp with rfl | hp
  · intro x
    obtain ⟨a, r, rfl⟩ : ∃ a r, x = ix4 0 0 a r := ⟨_, _, split4 x⟩
    refine (vPiece1_at a r).trans ?_
    show _ = (fun y : S1x8x80x512.Idx => vRow (laidOf x1 x2 x3 x4 x5 x6 x7 x8) (tokenOf x0 x9 x10 x11 x12 (y 3)) (y 1) (y 2)) ((vRect1 h).emb (ix4 0 0 a r))
    rw [show (vRect1 h).emb (ix4 0 0 a r) = ix4 0 h ⟨64 + a.val, by omega⟩ r from place4 h 64 _ a r _]
    show _ = vRow (laidOf x1 x2 x3 x4 x5 x6 x7 x8) (tokenOf x0 x9 x10 x11 x12 r) h ⟨64 + a.val, by omega⟩
    unfold vRow
    rw [dif_neg (by show ¬ (64 + a.val < 64); omega)]
  · obtain rfl := List.mem_singleton.1 hp
    intro x
    obtain ⟨a, r, rfl⟩ : ∃ a r, x = ix4 0 0 a r := ⟨_, _, split4 x⟩
    refine (vPiece0_at _ h a r).trans ((upV_at x0 x1 x2 x3 x4 x5 x6 x7 x8 x9 x10 x11 x12 _ r).trans ?_)
    show _ = (fun y : S1x8x80x512.Idx => vRow (laidOf x1 x2 x3 x4 x5 x6 x7 x8) (tokenOf x0 x9 x10 x11 x12 (y 3)) (y 1) (y 2)) ((vRect0 h).emb (ix4 0 0 a r))
    rw [show (vRect0 h).emb (ix4 0 0 a r) = ix4 0 h ⟨0 + a.val, by omega⟩ r from place4 h 0 _ a r _]
    show _ = vRow (laidOf x1 x2 x3 x4 x5 x6 x7 x8) (tokenOf x0 x9 x10 x11 x12 r) h ⟨0 + a.val, by omega⟩
    rw [show (⟨0 + a.val, by omega⟩ : Fin 80) = ⟨a.val, by omega⟩ from Fin.ext (by show 0 + a.val = a.val; omega)]
    unfold vRow
    rw [dif_pos (by exact a.isLt)]

theorem out17_at (r : Fin 512) (j : Fin 2048) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 (ix3 0 r j)
    = gateRow (laidOf x1 x2 x3 x4 x5 x6 x7 x8) (tokenOf x0 x9 x10 x11 x12 r) j := by
  rw [out17_eq]
  exact gates_at x0 x1 x2 x3 x4 x5 x6 x7 x8 x9 x10 x11 x12 r j

end Cert.Proof.Proj

end
-- ==== Proof.Proj.Value.lean ====
/-
  The five arrays the projections' call leaves are the reference's.
-/
module

public import proofs.«01_k».proof.Proof.Proj.Blocks
public import proofs.«01_k».proof.Proof.Proj.OutAt

@[expose] public section

set_option maxRecDepth 16384

noncomputable section

namespace Cert.Proof.Proj

open Cert.Kernel3Ideal Cert.Kernel3Ideal.Gen Cert.Proof.ProjRef
open Idealize.ShloMosaic Idealize.ShloMosaic.TcCoe

variable (m : (ℓ : Loc nD τ sig) → Buf (Elt Ideal) ℓ) (c : Dev nD)

/-- The reference's results from the kernel's arguments. -/
def expectedAb : FVec Ideal S8x2x4096x512 .bf16 :=
  abRef (m ((c.tc : Thread nD τ).loc main_arg0)) (m ((c.tc : Thread nD τ).loc main_arg2))
def expectedQ : FVec Ideal S8x8x128x4096 .bf16 :=
  qRef (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg7)) (m ((c.tc : Thread nD τ).loc main_arg8))
def expectedK : FVec Ideal S8x8x4096x128 .bf16 :=
  kRef (m ((c.tc : Thread nD τ).loc main_arg0)) (m ((c.tc : Thread nD τ).loc main_arg1)) (m ((c.tc : Thread nD τ).loc main_arg5))
    (m ((c.tc : Thread nD τ).loc main_arg6)) (m ((c.tc : Thread nD τ).loc main_arg7)) (m ((c.tc : Thread nD τ).loc main_arg8))
def expectedV : FVec Ideal S8x8x80x4096 .bf16 :=
  vRef (m ((c.tc : Thread nD τ).loc main_arg0)) (m ((c.tc : Thread nD τ).loc main_arg1)) (m ((c.tc : Thread nD τ).loc main_arg5))
    (m ((c.tc : Thread nD τ).loc main_arg6))
def expectedGate : FVec Ideal S8x4096x2048 .bf16 :=
  gateRef (m ((c.tc : Thread nD τ).loc main_arg0)) (m ((c.tc : Thread nD τ).loc main_arg1))

theorem ab_eq (t : Fin cfg0.N) (r : Fin 512) (p : Fin 2) (e : Fin 512) :
    abRow (lay (weights m c)) (layToken (xRow m c (batch t) (token t r)) (cosRow m c (token t r)) (sinRow m c (token t r))) p e
      = expectedAb m c (ix4 (batch t) p (token t r) e) :=
  Eq.trans rfl (ProjRef.ab_at _ _ (batch t) p (token t r) e).symm

theorem q_eq (t : Fin cfg0.N) (r : Fin 512) (h : Fin 8) (d : Fin 128) :
    qRow (lay (weights m c)) (layToken (xRow m c (batch t) (token t r)) (cosRow m c (token t r)) (sinRow m c (token t r))) h d
      = expectedQ m c (ix4 (batch t) h d (token t r)) :=
  (q_plain _ _ _ _ h d).trans (ProjRef.q_at _ _ _ _ _ _ _ _ _ (batch t) h d (token t r)).symm

theorem k_eq (hx : ∀ b i d, ∃ r : ℝ, xRow m c b i d = r) (hw : ∀ d j, ∃ r : ℝ, (weights m c).win d j = r)
    (t : Fin cfg0.N) (r : Fin 512) (h : Fin 8) (l : Fin 128) :
    kRow (lay (weights m c)) (layToken (xRow m c (batch t) (token t r)) (cosRow m c (token t r)) (sinRow m c (token t r))) h l
      = expectedK m c (ix4 (batch t) h (token t r) l) :=
  (k_plain _ _ _ _ (hx _ _) hw h l).trans (ProjRef.k_at _ _ _ _ _ _ _ _ _ (batch t) h (token t r) l).symm

theorem v_eq (t : Fin cfg0.N) (r : Fin 512) (h : Fin 8) (e : Fin 80) :
    vRow (lay (weights m c)) (layToken (xRow m c (batch t) (token t r)) (cosRow m c (token t r)) (sinRow m c (token t r))) h e
      = expectedV m c (ix4 (batch t) h e (token t r)) :=
  (v_plain _ _ _ _ h e).trans (ProjRef.v_at _ _ _ _ _ _ _ (batch t) h e (token t r)).symm

theorem gate_eq (t : Fin cfg0.N) (r : Fin 512) (j : Fin 2048) :
    gateRow (lay (weights m c)) (layToken (xRow m c (batch t) (token t r)) (cosRow m c (token t r)) (sinRow m c (token t r))) j
      = expectedGate m c (ix3 (batch t) (token t r) j) :=
  Eq.trans rfl (ProjRef.gate_at _ (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (batch t) (token t r) j).symm

/-- What a function of the laid-out weights and a laid-out token gives on a grid point's blocks. -/
theorem on_blocks (f : Laid → Token → EReal) (t : Fin cfg0.N) (r : Fin 512) :
    f (laidOf (iblk m c 1 t) (iblk m c 2 t) (iblk m c 3 t) (iblk m c 4 t) (iblk m c 5 t) (iblk m c 6 t) (iblk m c 7 t) (iblk m c 8 t))
      (tokenOf (iblk m c 0 t) (iblk m c 9 t) (iblk m c 10 t) (iblk m c 11 t) (iblk m c 12 t) r)
      = f (lay (weights m c)) (layToken (xRow m c (batch t) (token t r)) (cosRow m c (token t r)) (sinRow m c (token t r))) := by
  rw [weights_eq, token_eq]

theorem final_ab : (dats m 0 c).arrAt 13 cfg0.N = expectedAb m c := by
  refine (dats m 0 c).arrAt_eq_of_covers 13 _ (by decide +kernel) fun t _ y => ?_
  blk_simp
  rw [after0_13]
  simp only [outsAt0]
  rw [out13_at]
  refine (on_blocks m c (fun w u => abRow w u (y 1) (y 3)) t (y 2)).trans ((ab_eq m c t (y 2) (y 1) (y 3)).trans (congrArg (expectedAb m c) ?_))
  blk_ext [batch, token, idxOut t]

theorem final_q : (dats m 0 c).arrAt 14 cfg0.N = expectedQ m c := by
  refine (dats m 0 c).arrAt_eq_of_covers 14 _ (by decide +kernel) fun t _ y => ?_
  blk_simp
  rw [after0_14]
  simp only [outsAt0]
  rw [out14_at]
  refine (on_blocks m c (fun w u => qRow w u (y 1) (y 2)) t (y 3)).trans ((q_eq m c t (y 3) (y 1) (y 2)).trans (congrArg (expectedQ m c) ?_))
  blk_ext [batch, token, idxOut t]

theorem final_k (hx : ∀ b i d, ∃ r : ℝ, xRow m c b i d = r) (hw : ∀ d j, ∃ r : ℝ, (weights m c).win d j = r) :
    (dats m 0 c).arrAt 15 cfg0.N = expectedK m c := by
  refine (dats m 0 c).arrAt_eq_of_covers 15 _ (by decide +kernel) fun t _ y => ?_
  blk_simp
  rw [after0_15]
  simp only [outsAt0]
  rw [out15_at]
  refine (on_blocks m c (fun w u => kRow w u (y 1) (y 3)) t (y 2)).trans ((k_eq m c hx hw t (y 2) (y 1) (y 3)).trans (congrArg (expectedK m c) ?_))
  blk_ext [batch, token, idxOut t]

theorem final_v : (dats m 0 c).arrAt 16 cfg0.N = expectedV m c := by
  refine (dats m 0 c).arrAt_eq_of_covers 16 _ (by decide +kernel) fun t _ y => ?_
  blk_simp
  rw [after0_16]
  simp only [outsAt0]
  rw [out16_at]
  refine (on_blocks m c (fun w u => vRow w u (y 1) (y 2)) t (y 3)).trans ((v_eq m c t (y 3) (y 1) (y 2)).trans (congrArg (expectedV m c) ?_))
  blk_ext [batch, token, idxOut t]

theorem final_gate : (dats m 0 c).arrAt 17 cfg0.N = expectedGate m c := by
  refine (dats m 0 c).arrAt_eq_of_covers 17 _ (by decide +kernel) fun t _ y => ?_
  obtain ⟨r, j, rfl⟩ : ∃ (r : Fin 512) (j : Fin 2048), y = ix3 0 r j := ⟨y 1, y 2, by
    funext a; fin_cases a
    · exact Fin.ext (by have : (y 0).val < 1 := (y 0).isLt; show (y 0).val = 0; omega)
    · rfl
    · rfl⟩
  blk_simp
  rw [after0_17]
  simp only [outsAt0]
  refine (out17_at ..).trans ((on_blocks m c (fun w u => gateRow w u j) t r).trans ((gate_eq m c t r j).trans (congrArg (expectedGate m c) ?_)))
  blk_ext [batch, token, idxOut t]

end Cert.Proof.Proj

end
-- ==== Proof.Attn.Finite.lean ====
/-
  The precondition, read: every entry of the queries and of the keys is real.
-/
module

public import proofs.«01_k».proof.Proof.Gen.Pre_finite_qk
public import Idealize.ShloMosaic.Lib.Pipeline.ValueKit
public import Idealize.ShloMosaic.Lib.WordArith

@[expose] public section

set_option maxRecDepth 16384

namespace Cert.Proof.Attn

open Cert.Pre_finite_qk Cert.Pre_finite_qk.Gen
open Idealize.ShloMosaic

theorem word_inf : Ideal.ofBits .f32 2139095040#32 = ⊤ := by
  simp [Ideal.ofBits, Ideal.ieee]

theorem real_of_abs {x : EReal} (h : BitVec.ofBool (decide ((FloatOps.absf (F := Ideal) (φ := .f32) x : EReal) < Ideal.ofBits .f32 2139095040#32)) = 1#1) :
    ∃ r : ℝ, x = (r : EReal) := by
  rw [word_inf] at h
  induction x with
  | bot =>
    have e : (FloatOps.absf (F := Ideal) (φ := .f32) (⊥ : EReal) : EReal) = ⊤ := by
      change max (⊥ : EReal) (-⊥) = ⊤
      simp
    rw [e] at h
    simp at h
  | top =>
    have e : (FloatOps.absf (F := Ideal) (φ := .f32) (⊤ : EReal) : EReal) = ⊤ := by
      change max (⊤ : EReal) (-⊤) = ⊤
      simp
    rw [e] at h
    simp at h
  | coe r => exact ⟨r, rfl⟩

theorem queries_real (q k : FVec Ideal S8x4096x8x96 .f32) (v : FVec Ideal S8x4096x8x64 .f32)
    (h : (Cert.Pre_finite_qk.fn (F := Ideal) q k v).1 = fun _ => 1#1) (y : S8x4096x8x96.Idx) : ∃ r : ℝ, q y = (r : EReal) := by
  have := congrFun h y
  unfold Cert.Pre_finite_qk.fn at this
  dsimp only at this
  revert this
  pointwise
  exact real_of_abs

theorem keys_real (q k : FVec Ideal S8x4096x8x96 .f32) (v : FVec Ideal S8x4096x8x64 .f32)
    (h : (Cert.Pre_finite_qk.fn (F := Ideal) q k v).2 = fun _ => 1#1) (y : S8x4096x8x96.Idx) : ∃ r : ℝ, k y = (r : EReal) := by
  have := congrFun h y
  unfold Cert.Pre_finite_qk.fn at this
  dsimp only at this
  revert this
  pointwise
  exact real_of_abs

end Cert.Proof.Attn
-- ==== Proof.Proj.Finite.lean ====
/-
  The projections' precondition, read: every entry of the layer's input and of its input weight is real.
-/
module

public import proofs.«01_k».proof.Proof.Gen.Pre_finite_x
public import proofs.«01_k».proof.Proof.Attn.Finite

@[expose] public section

set_option maxRecDepth 16384

namespace Cert.Proof.Proj

open Cert.Pre_finite_x Cert.Pre_finite_x.Gen
open Idealize.ShloMosaic

variable (x : FVec Ideal S8x4096x1024 .f32) (win : FVec Ideal S1024x3232 .f32) (wab : FVec Ideal S1024x1024 .f32)
  (gq : FVec Ideal S384 .f32) (wuq : FVec Ideal S384x768 .f32) (gkv : FVec Ideal S256 .f32) (wukv : FVec Ideal S256x1024 .f32)
  (cos sin : FVec Ideal S4096x16 .f32)

theorem x_real (h : (Cert.Pre_finite_x.fn (F := Ideal) x win wab gq wuq gkv wukv cos sin).1 = fun _ => 1#1) (y : S8x4096x1024.Idx) :
    ∃ r : ℝ, x y = r := by
  have := congrFun h y
  unfold Cert.Pre_finite_x.fn at this
  dsimp only at this
  revert this
  pointwise
  exact Attn.real_of_abs

theorem win_real (h : (Cert.Pre_finite_x.fn (F := Ideal) x win wab gq wuq gkv wukv cos sin).2 = fun _ => 1#1) (y : S1024x3232.Idx) :
    ∃ r : ℝ, win y = r := by
  have := congrFun h y
  unfold Cert.Pre_finite_x.fn at this
  dsimp only at this
  revert this
  pointwise
  exact Attn.real_of_abs

end Cert.Proof.Proj
-- ==== Proof.Attn.Twin.lean ====
/-
  The program as printed and its idealized reading have one text: their kernels are equal operation by operation,
  so the run of the one is the run of the other.
-/
module

public import proofs.«01_k».proof.Defs
public import proofs.«01_k».proof.Proof.Gen.Kernel
public import proofs.«01_k».proof.Proof.Attn.Run

@[expose] public section

set_option maxRecDepth 100000

namespace Cert.Proof.Attn

open Idealize.ShloMosaic Idealize.SL.Sem

variable {F : FTy → Type} [FloatOps F]

theorem kernel_same : Cert.Kernel.cc0_attention (F := F) = Cert.KernelIdeal.cc0_attention (F := F) := rfl

theorem bodies_same : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) => rfl
  | ⟨_ + 1, h⟩, _ => exact absurd h (Nat.not_lt.2 (Nat.le_add_left _ _))

theorem defs_same : Cert.Kernel.defs (F := F) = Cert.KernelIdeal.defs (F := F) :=
  congrArg (Pipeline.defs Cert.KernelIdeal.pcfgs) bodies_same

theorem main_same : Cert.Kernel.main (F := F) = Cert.KernelIdeal.main (F := F) := rfl

/-- The program as printed runs, leaves its arguments and every counter as they began. -/
theorem frame_kernel : Cert.quiescent_Kernel := fun m ρ _ => by
  rw [defs_same, main_same]
  exact frame (F := Bits) m ρ

end Cert.Proof.Attn

end
-- ==== Proof.lean ====
/-
  The certificate of three of a layer's kernels, the attention, the last call and the projections: for each, the frames of the
  kernel's two readings and of the reference, and the equality of the kernel's and the reference's results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_qk
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_x
public import proofs.«01_k».proof.Proof.Attn.Value
public import proofs.«01_k».proof.Proof.Ffn.Value
public import proofs.«01_k».proof.Proof.Proj.Value
public import proofs.«01_k».proof.Proof.Proj.Finite
public import proofs.«01_k».proof.Proof.Attn.Finite
public import proofs.«01_k».proof.Proof.Attn.Twin
public import Idealize.ShloMosaic.Lib.Claim
public import Idealize.ShloMosaic.Lib.Quiescent

@[expose] public section

set_option maxRecDepth 16384

namespace Cert.Proof

open Idealize.ShloMosaic Idealize.SL.Sem

theorem frame_ideal : Cert.quiescent_KernelIdeal := fun m ρ _ => Attn.frame (F := Ideal) m ρ

theorem frame_ideal_pre : Cert.quiescent_KernelIdeal_pre_finite_qk := fun m ρ _ => Attn.frame (F := Ideal) m ρ

/-- The reference's program has no counters, and leaves its arguments as they were. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

theorem frame_reference_pre : Cert.quiescent_ReferenceIdeal_pre_finite_qk := fun m ρ _ => frame_reference m ρ trivial

section
open Cert.KernelIdeal in
/-- The kernel's result at finite queries and keys. -/
theorem kernel_value (m : (ℓ : Loc nD τ sig) → Buf (Elt Ideal) ℓ) (hpre : Cert.Pre_KernelIdeal_finite_qk m) (c : Dev nD) :
    (Attn.dats m 0 c).arrAt 3 cfg0.N
      = AttnRef.result (m ((c.tc : Thread nD τ).loc main_arg2)) (AttnRef.probs (AttnRef.weights
          (AttnRef.scores (m ((c.tc : Thread nD τ).loc main_arg0)) (m ((c.tc : Thread nD τ).loc main_arg1))))) := by
  choose qr hq using Attn.queries_real _ _ _ (hpre c).1
  choose kr hk using Attn.keys_real _ _ _ (hpre c).2
  exact Attn.final m c hq hk
end

theorem algebraic : Cert.algebraic_KernelIdeal_ReferenceIdeal_pre_finite_qk := by
  pair_intro
  · run_from Attn.run_main m g
  · refine (θ_run Cert.ReferenceIdeal.defs _ _).mono (fun r h c => ⟨(h c).1.trans ?_, (h c).2⟩)
      (Cert.ReferenceIdeal.Value.run (F := Ideal) m' g')
    obtain ⟨e0, e1, e2⟩ := hagree c
    rw [e0, e1, e2]
    exact (kernel_value m hpre c).symm

/-- The value the kernel's named literal was rounded from. -/
theorem named2 : Cert.preserves_Kernel2_Kernel2Ideal := IdealRules.named_const.statement _ _ _ _ _ rfl

/-- The second reference's program has no counters, and leaves its arguments as they were. -/
theorem frame_reference2 : Cert.quiescent_Reference2Ideal := fun m ρ _ =>
  (θ_run Cert.Reference2Ideal.defs _ _).mono (fun _ h => ⟨fun c => (h c).2, sem_eq_zero_of_no_sems rfl _⟩)
    (Cert.Reference2Ideal.Value.run (F := Ideal) m ρ)

theorem algebraic2 : Cert.algebraic_Kernel2Ideal_Reference2Ideal := by
  pair_intro
  · run_from Cert.Kernel2Ideal.Value.run_blocks m g
  · refine (θ_run Cert.Reference2Ideal.defs _ _).mono (fun r h c => ⟨(h c).1.trans ?_, (h c).2⟩)
      (Cert.Reference2Ideal.Value.run (F := Ideal) m' g')
    refine Eq.trans ?_ (Ffn.final m c).symm
    obtain ⟨e0, e1, e2, e3, e4, e5, e6, e7, e8, e9, e10, e11, e12, e13⟩ := hagree c
    unfold Ffn.expected
    rw [← e0, ← e1, ← e2, ← e3, ← e4, ← e5, ← e6, ← e7, ← e8, ← e9, ← e10, ← e11, ← e12, ← e13]
    rfl

/-- The third reference's program has no counters, and leaves its arguments as they were. -/
theorem frame_reference3 : Cert.quiescent_Reference3Ideal := fun m ρ _ =>
  (θ_run Cert.Reference3Ideal.defs _ _).mono (fun _ h => ⟨fun c => (h c).2.2.2.2.2, sem_eq_zero_of_no_sems rfl _⟩)
    (Cert.Reference3Ideal.Value.run (F := Ideal) m ρ)

theorem algebraic3 : Cert.algebraic_Kernel3Ideal_Reference3Ideal_pre_finite_x := by
  pair_intro
  · run_from Cert.Kernel3Ideal.Value.run_blocks m g
  · refine (θ_run Cert.Reference3Ideal.defs _ _).mono (fun r h c => ?_) (Cert.Reference3Ideal.Value.run (F := Ideal) m' g')
    obtain ⟨a0, a1, a2, a3, a4, rest⟩ := h c
    have hx := Proj.x_real _ _ _ _ _ _ _ _ _ (hpre c).1
    have hw := Proj.win_real _ _ _ _ _ _ _ _ _ (hpre c).2
    obtain ⟨e0, e1, e2, e3, e4, e5, e6, e7, e8⟩ := hagree c
    refine ⟨a0.trans ?_, a1.trans ?_, a2.trans ?_, a3.trans ?_, a4.trans ?_, rest⟩
    · refine Eq.trans ?_ (Proj.final_ab m c).symm
      unfold Proj.expectedAb
      rw [← e0, ← e2]
      rfl
    · refine Eq.trans ?_ (Proj.final_q m c).symm
      unfold Proj.expectedQ
      rw [← e0, ← e1, ← e3, ← e4, ← e7, ← e8]
      rfl
    · refine Eq.trans ?_ (Proj.final_k m c (fun _ _ _ => hx _) (fun _ _ => hw _)).symm
      unfold Proj.expectedK
      rw [← e0, ← e1, ← e5, ← e6, ← e7, ← e8]
      rfl
    · refine Eq.trans ?_ (Proj.final_v m c).symm
      unfold Proj.expectedV
      rw [← e0, ← e1, ← e5, ← e6]
      rfl
    · refine Eq.trans ?_ (Proj.final_gate m c).symm
      unfold Proj.expectedGate
      rw [← e0, ← e1]
      rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite_qk.Gen.facts, Cert.Pre_finite_x.Gen.facts,
    Attn.frame_kernel, frame_ideal, frame_ideal_pre, frame_reference, frame_reference_pre,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, fun m ρ _ => Cert.Kernel3Ideal.Gen.frame m ρ,
    frame_reference3, fun m ρ _ => frame_reference3 m ρ trivial,
    trivial, algebraic, named2, algebraic2, trivial, algebraic3⟩

end Cert.Proof

end
